-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable_KernelIdeal [hPre_routable_KernelIdeal : Cert.Pre_routable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable_ReferenceIdeal [hPre_routable_ReferenceIdeal : Cert.Pre_routable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routable_KernelIdeal [hKernelIdeal : Cert.KernelIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routable_ReferenceIdeal [hReferenceIdeal : Cert.ReferenceIdeal.Facts] [hPre_routable_ReferenceIdeal : Cert.Pre_routable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routable_KernelIdeal [hKernelIdeal : Cert.KernelIdeal.Facts] [hReferenceIdeal : Cert.ReferenceIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routable_KernelIdeal : Cert.Pre_routable_KernelIdeal.Facts) (hPre_routable_ReferenceIdeal : Cert.Pre_routable_ReferenceIdeal.Facts),
    quiescent_Kernel (hKernel := hKernel)
    ∧ quiescent_KernelIdeal (hKernelIdeal := hKernelIdeal)
    ∧ quiescent_KernelIdeal_pre_routable_KernelIdeal (hKernelIdeal := hKernelIdeal) (hPre_routable_KernelIdeal := hPre_routable_KernelIdeal)
    ∧ quiescent_ReferenceIdeal (hReferenceIdeal := hReferenceIdeal)
    ∧ quiescent_ReferenceIdeal_pre_routable_ReferenceIdeal (hReferenceIdeal := hReferenceIdeal) (hPre_routable_ReferenceIdeal := hPre_routable_ReferenceIdeal)
    ∧ preserves_Kernel_KernelIdeal
    ∧ algebraic_KernelIdeal_ReferenceIdeal_pre_routable_KernelIdeal (hKernelIdeal := hKernelIdeal) (hReferenceIdeal := hReferenceIdeal) (hPre_routable_KernelIdeal := hPre_routable_KernelIdeal)
-- ==== Pre_routable_KernelIdeal.lean ====
abbrev S256x128 : Shape := ⟨2, ![256, 128]⟩
abbrev S128x8 : Shape := ⟨2, ![128, 8]⟩
abbrev S256x2 : Shape := ⟨2, ![256, 2]⟩
abbrev S2x128x256 : Shape := ⟨3, ![2, 128, 256]⟩
abbrev S_ : Shape := ⟨0, ![]⟩

class Facts : Prop where
  bitsLt_bf16_f32 : FTy.bits .bf16 < FTy.bits .f32
  bcast_S_S256x128 : S_.BroadcastsInDim S256x128 (![] : Fin 0 → Fin S256x128.rank)
  reducesTo_S256x128_S_d0_1 : S256x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S256x2 : S_.BroadcastsInDim S256x2 (![] : Fin 0 → Fin S256x2.rank)
  reducesTo_S256x2_S_d0_1 : S256x2.ReducesTo [0, 1] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S256x128 .bf16) (main_arg1 : FVec F S128x8 .bf16) (main_arg2 : IVec S256x2 32) (main_arg3 : FVec F S2x128x256 .bf16) : IVec S_ 1 :=
  let main_v0 : FVec F S256x128 .f32 := (extf .f32 · bitsLt_bf16_f32) main_arg0
  let main_v1 : FVec F S256x128 .f32 := Host.absf main_v0
  let main_cst : FVec F S_ .f32 := constant S_ .f32 0x7F800000#32
  let main_v2 : FVec F S256x128 .f32 := broadcastInDim S256x128 ![] bcast_S_S256x128 main_cst
  let main_v3 : IVec S256x128 1 := cmpf .olt main_v1 main_v2
  let main_c : IVec S_ 1 := constantI S_ 1 1#1
  let main_v4 : IVec S_ 1 := (fun x v => Host.reduce IntOp.andi x v reducesTo_S256x128_S_d0_1 h_S_) main_v3 main_c
  let main_v5 : FVec F S128x8 .f32 := (extf .f32 · bitsLt_bf16_f32) main_arg1
  let main_v6 : FVec F S128x8 .f32 := Host.absf main_v5
  let main_cst_0 : FVec F S_ .f32 := constant S_ .f32 0x7F800000#32
  let main_v7 : FVec F S128x8 .f32 := broadcastInDim S128x8 ![] bcast_S_S128x8 main_cst_0
  let main_v8 : IVec S128x8 1 := cmpf .olt main_v6 main_v7
  let main_c_1 : IVec S_ 1 := constantI S_ 1 1#1
  let main_v9 : IVec S_ 1 := (fun x v => Host.reduce IntOp.andi x v reducesTo_S128x8_S_d0_1 h_S_) main_v8 main_c_1
  let main_v10 : IVec S_ 1 := andi main_v4 main_v9
  let main_c_2 : IVec S_ 32 := constantI S_ 32 0#32
  let main_v11 : IVec S256x2 32 := broadcastInDim S256x2 ![] bcast_S_S256x2 main_c_2
  let main_v12 : IVec S256x2 1 := cmpi .sge main_arg2 main_v11
  let main_c_3 : IVec S_ 32 := constantI S_ 32 8#32
  let main_v13 : IVec S256x2 32 := broadcastInDim S256x2 ![] bcast_S_S256x2 main_c_3
  let main_v14 : IVec S256x2 1 := cmpi .slt main_arg2 main_v13
  let main_v15 : IVec S256x2 1 := andi main_v12 main_v14
  let main_c_4 : IVec S_ 1 := constantI S_ 1 1#1
  let main_v16 : IVec S_ 1 := (fun x v => Host.reduce IntOp.andi x v reducesTo_S256x2_S_d0_1 h_S_) main_v15 main_c_4
  fn_part1 (F := F) main_v10 main_v16
-- ==== Pre_routable_ReferenceIdeal.lean ====
abbrev S256x128 : Shape := ⟨2, ![256, 128]⟩
abbrev S128x8 : Shape := ⟨2, ![128, 8]⟩
abbrev S256x2 : Shape := ⟨2, ![256, 2]⟩
abbrev S8x128x256 : Shape := ⟨3, ![8, 128, 256]⟩
abbrev S_ : Shape := ⟨0, ![]⟩

class Facts : Prop where
  bitsLt_bf16_f32 : FTy.bits .bf16 < FTy.bits .f32
  bcast_S_S256x128 : S_.BroadcastsInDim S256x128 (![] : Fin 0 → Fin S256x128.rank)
  reducesTo_S256x128_S_d0_1 : S256x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S256x2 : S_.BroadcastsInDim S256x2 (![] : Fin 0 → Fin S256x2.rank)
  reducesTo_S256x2_S_d0_1 : S256x2.ReducesTo [0, 1] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S256x128 .bf16) (main_arg1 : FVec F S128x8 .bf16) (main_arg2 : IVec S256x2 32) (main_arg3 : FVec F S8x128x256 .bf16) : IVec S_ 1 :=
  let main_v0 : FVec F S256x128 .f32 := (extf .f32 · bitsLt_bf16_f32) main_arg0
  let main_v1 : FVec F S256x128 .f32 := Host.absf main_v0
  let main_cst : FVec F S_ .f32 := constant S_ .f32 0x7F800000#32
  let main_v2 : FVec F S256x128 .f32 := broadcastInDim S256x128 ![] bcast_S_S256x128 main_cst
  let main_v3 : IVec S256x128 1 := cmpf .olt main_v1 main_v2
  let main_c : IVec S_ 1 := constantI S_ 1 1#1
  let main_v4 : IVec S_ 1 := (fun x v => Host.reduce IntOp.andi x v reducesTo_S256x128_S_d0_1 h_S_) main_v3 main_c
  let main_v5 : FVec F S128x8 .f32 := (extf .f32 · bitsLt_bf16_f32) main_arg1
  let main_v6 : FVec F S128x8 .f32 := Host.absf main_v5
  let main_cst_0 : FVec F S_ .f32 := constant S_ .f32 0x7F800000#32
  let main_v7 : FVec F S128x8 .f32 := broadcastInDim S128x8 ![] bcast_S_S128x8 main_cst_0
  let main_v8 : IVec S128x8 1 := cmpf .olt main_v6 main_v7
  let main_c_1 : IVec S_ 1 := constantI S_ 1 1#1
  let main_v9 : IVec S_ 1 := (fun x v => Host.reduce IntOp.andi x v reducesTo_S128x8_S_d0_1 h_S_) main_v8 main_c_1
  let main_v10 : IVec S_ 1 := andi main_v4 main_v9
  let main_c_2 : IVec S_ 32 := constantI S_ 32 0#32
  let main_v11 : IVec S256x2 32 := broadcastInDim S256x2 ![] bcast_S_S256x2 main_c_2
  let main_v12 : IVec S256x2 1 := cmpi .sge main_arg2 main_v11
  let main_c_3 : IVec S_ 32 := constantI S_ 32 8#32
  let main_v13 : IVec S256x2 32 := broadcastInDim S256x2 ![] bcast_S_S256x2 main_c_3
  let main_v14 : IVec S256x2 1 := cmpi .slt main_arg2 main_v13
  let main_v15 : IVec S256x2 1 := andi main_v12 main_v14
  let main_c_4 : IVec S_ 1 := constantI S_ 1 1#1
  let main_v16 : IVec S_ 1 := (fun x v => Host.reduce IntOp.andi x v reducesTo_S256x2_S_d0_1 h_S_) main_v15 main_c_4
  fn_part1 (F := F) main_v10 main_v16
-- ==== Kernel.lean ====
abbrev S256x128 : Shape := ⟨2, ![256, 128]⟩
abbrev S128x8 : Shape := ⟨2, ![128, 8]⟩
abbrev S256x2 : Shape := ⟨2, ![256, 2]⟩
abbrev S2x128x256 : Shape := ⟨3, ![2, 128, 256]⟩
abbrev S256x256 : Shape := ⟨2, ![256, 256]⟩
abbrev S4x64x256 : Shape := ⟨3, ![4, 64, 256]⟩
abbrev S3 : Shape := ⟨1, ![3]⟩
abbrev S4 : Shape := ⟨1, ![4]⟩
abbrev S_ : Shape := ⟨0, ![]⟩
abbrev S256x8 : Shape := ⟨2, ![256, 8]⟩
abbrev S256 : Shape := ⟨1, ![256]⟩
abbrev S256x1 : Shape := ⟨2, ![256, 1]⟩
abbrev S1 : Shape := ⟨1, ![1]⟩
abbrev S1x64x256 : Shape := ⟨3, ![1, 64, 256]⟩
abbrev S64x256 : Shape := ⟨2, ![64, 256]⟩

abbrev nBuf : Space → Nat
  | .hbm => 5
  | .vmem => 9
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x2, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S128x8, .bf16⟩
  | .local _ .vmem, ⟨2, _⟩ => ⟨S256x2, .i32⟩
  | .local _ .vmem, ⟨3, _⟩ => ⟨S2x128x256, .bf16⟩
  | .local _ .vmem, ⟨4, _⟩ => ⟨S256x256, .f32⟩
  | .local _ .vmem, ⟨5, _⟩ => ⟨S4x64x256, .f32⟩
  | .local _ .vmem, ⟨6, _⟩ => ⟨S4x64x256, .bf16⟩
  | .local _ .vmem, ⟨7, _⟩ => ⟨S4x64x256, .bf16⟩
  | .local _ .vmem, ⟨8, _⟩ => ⟨S4x64x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_10 : BitVec 32 := 1#32
  let v14 : BitVec 32 := Scalar.muli v8 c1_i32_10
  let v15 : BitVec 32 := Scalar.addi c0_i32_11 v14
  v15.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_46 : BitVec 32 := 0#32
  let c0_i32_47 : BitVec 32 := 0#32
  ![v2.toNat, 0, 0]
def k0_off3 (d0 : Dev nD) (c2_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c0_i32_48 : BitVec 32 := 0#32
  let c0_i32_49 : BitVec 32 := 0#32
  ![v6.toNat, 0, 0]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_44 : BitVec 32 := 1#32
  let v93 : BitVec 32 := Scalar.muli v6 c1_i32_44
  let v94 : BitVec 32 := Scalar.addi c0_i32_45 v93
  v94.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_51 : BitVec 32 := 1#32
  let v103 : BitVec 32 := Scalar.muli v4 c1_i32_51
  let v104 : BitVec 32 := Scalar.addi c0_i32_52 v103
  v104.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_58 : BitVec 32 := 1#32
  let v113 : BitVec 32 := Scalar.muli v8 c1_i32_58
  let v114 : BitVec 32 := Scalar.addi c0_i32_59 v113
  v114.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v123 : Index := Scalar.indexCast v2
  let c0_64 : Index := 0#32
  let c0_65 : Index := 0#32
  ![v123.toNat, 0, 0]
def k0_off5 (d0 : Dev nD) (c1_i32_0 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  ![v4.toNat]
def k0_off6 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let v134 : Index := Scalar.indexCast v4
  let c0_73 : Index := 0#32
  let c0_74 : Index := 0#32
  ![v134.toNat, 0, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v170 : BitVec 32 := Scalar.muli v2 c64_i32
  let v171 : Index := Scalar.indexCast v170
  let c0_95 : Index := 0#32
  ![v171.toNat, 0]
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_97 : BitVec 32 := 1#32
  let v173 : BitVec 32 := Scalar.muli v6 c1_i32_97
  let v174 : BitVec 32 := Scalar.addi c0_i32_98 v173
  v174.toNat
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_104 : BitVec 32 := 1#32
  let v183 : BitVec 32 := Scalar.muli v4 c1_i32_104
  let v184 : BitVec 32 := Scalar.addi c0_i32_105 v183
  v184.toNat
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_111 : BitVec 32 := 1#32
  let v193 : BitVec 32 := Scalar.muli v8 c1_i32_111
  let v194 : BitVec 32 := Scalar.addi c0_i32_112 v193
  v194.toNat
def k0_off8 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c64_i32_126 : BitVec 32 := 64#32
  let v215 : BitVec 32 := Scalar.muli v4 c64_i32_126
  let v216 : Index := Scalar.indexCast v215
  let c0_127 : Index := 0#32
  ![v216.toNat, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x8 : Shape := ⟨2, ![128, 8]⟩
abbrev S256x2 : Shape := ⟨2, ![256, 2]⟩
abbrev S8x128x256 : Shape := ⟨3, ![8, 128, 256]⟩
abbrev S256x8 : Shape := ⟨2, ![256, 8]⟩
abbrev S_ : Shape := ⟨0, ![]⟩
abbrev S256 : Shape := ⟨1, ![256]⟩
abbrev S256x1 : Shape := ⟨2, ![256, 1]⟩
abbrev S256x1x1 : Shape := ⟨3, ![256, 1, 1]⟩
abbrev S256x128x256 : Shape := ⟨3, ![256, 128, 256]⟩
abbrev S256x256 : Shape := ⟨2, ![256, 256]⟩

abbrev nBuf : Space → Nat
  | .hbm => 71
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x2, .i32⟩
  | .hbm, ⟨3, _⟩ => ⟨S8x128x256, .bf16⟩
  | .hbm, ⟨4, _⟩ => ⟨S256x128, .f32⟩
  | .hbm, ⟨5, _⟩ => ⟨S128x8, .f32⟩
  | .hbm, ⟨6, _⟩ => ⟨S256x8, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S256x8, .f32⟩
  | .hbm, ⟨11, _⟩ => ⟨S256x8, .f32⟩
  | .hbm, ⟨12, _⟩ => ⟨S256x8, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x8, .f32⟩
  | .hbm, ⟨17, _⟩ => ⟨S256x8, .f32⟩
  | .hbm, ⟨18, _⟩ => ⟨S256x1, .i32⟩
  | .hbm, ⟨19, _⟩ => ⟨S256, .i32⟩
  | .hbm, ⟨20, _⟩ => ⟨S256x1, .i32⟩
  | .hbm, ⟨21, _⟩ => ⟨S256, .i32⟩
  | .hbm, ⟨22, _⟩ => ⟨S256x1, .i32⟩
  | .hbm, ⟨23, _⟩ => ⟨S_, .i32⟩
  | .hbm, ⟨24, _⟩ => ⟨S256x1, .i32⟩
  | .hbm, ⟨25, _⟩ => ⟨S256x1, .i1⟩
  | .hbm, ⟨26, _⟩ => ⟨S_, .i32⟩
  | .hbm, ⟨27, _⟩ => ⟨S256x1, .i32⟩
  | .hbm, ⟨28, _⟩ => ⟨S256x1, .i32⟩
  | .hbm, ⟨29, _⟩ => ⟨S256x1, .i32⟩
  | .hbm, ⟨30, _⟩ => ⟨S256x1x1, .i32⟩
  | .hbm, ⟨31, _⟩ => ⟨S256x1, .f32⟩
  | .hbm, ⟨32, _⟩ => ⟨S256x1, .i32⟩
  | .hbm, ⟨33, _⟩ => ⟨S_, .i32⟩
  | .hbm, ⟨34, _⟩ => ⟨S256x1, .i32⟩
  | .hbm, ⟨35, _⟩ => ⟨S256x1, .i1⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S256x1, .i32⟩
  | .hbm, ⟨40, _⟩ => ⟨S256x1x1, .i32⟩
  | .hbm, ⟨41, _⟩ => ⟨S256x1, .f32⟩
  | .hbm, ⟨42, _⟩ => ⟨S256x1, .f32⟩
  | .hbm, ⟨43, _⟩ => ⟨S8x128x256, .f32⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S256x1, .i32⟩
  | .hbm, ⟨52, _⟩ => ⟨S256x128x256, .f32⟩
  | .hbm, ⟨53, _⟩ => ⟨S256x256, .f32⟩
  | .hbm, ⟨54, _⟩ => ⟨S_, .i32⟩
  | .hbm, ⟨55, _⟩ => ⟨S256, .i32⟩
  | .hbm, ⟨56, _⟩ => ⟨S256, .i1⟩
  | .hbm, ⟨57, _⟩ => ⟨S_, .i32⟩
  | .hbm, ⟨58, _⟩ => ⟨S256, .i32⟩
  | .hbm, ⟨59, _⟩ => ⟨S256, .i32⟩
  | .hbm, ⟨60, _⟩ => ⟨S256, .i32⟩
  | .hbm, ⟨61, _⟩ => ⟨S256x1, .i32⟩
  | .hbm, ⟨62, _⟩ => ⟨S256x128x256, .f32⟩
  | .hbm, ⟨63, _⟩ => ⟨S256x256, .f32⟩
  | .hbm, ⟨64, _⟩ => ⟨S256x1, .f32⟩
  | .hbm, ⟨65, _⟩ => ⟨S256x256, .f32⟩
  | .hbm, ⟨66, _⟩ => ⟨S256x256, .f32⟩
  | .hbm, ⟨67, _⟩ => ⟨S256x1, .f32⟩
  | .hbm, ⟨68, _⟩ => ⟨S256x256, .f32⟩
  | .hbm, ⟨69, _⟩ => ⟨S256x256, .f32⟩
  | .hbm, ⟨70, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_2 : Ref sig .tc := ⟨.hbm, 54, rfl⟩
abbrev main_v30 : Ref sig .tc := ⟨.hbm, 55, rfl⟩
abbrev main_v31 : Ref sig .tc := ⟨.hbm, 56, rfl⟩
abbrev main_c_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== Proof.Places.lean ====
/-
# `Places`: the four devices, the slots of the exchange buffers, and what a slot's views read and write

Each exchange buffer of the kernel has shape 4×64×256: slot `p` (the first coordinate) is the 64×256 block that
belongs to, or comes from, device `p`. The kernel reads a slot as the 1×64×256 rectangle at offsets `(p, 0, 0)` and
transfers it through that rectangle squeezed to 64×256. This module states, for offsets equal to `(p, 0, 0)`,
which elements those views hold and what they read and write.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic

variable {F : FTy → Type} [FloatOps F]

/-! ## The devices -/

set_option backward.proofsInPublic true in
/-- The device `k + 1` places after `c` around the four. -/
def peer (k : Fin 3) (c : Dev nD) : Dev nD := ⟨(c.val + k.val + 1) % 4, Nat.mod_lt _ (by decide)⟩

theorem peer_ne (k : Fin 3) (c : Dev nD) : peer k c ≠ c := by revert k c; decide
theorem peer_rev (k : Fin 3) (c : Dev nD) : peer k.rev (peer k c) = c := by revert k c; decide
theorem peer_inj (c : Dev nD) {k k' : Fin 3} (h : peer k c = peer k' c) : k = k' := by revert k k' c; decide
theorem eq_or_peer (c p : Dev nD) : p = c ∨ p = peer 0 c ∨ p = peer 1 c ∨ p = peer 2 c := by revert c p; decide

/-- Going `k + 1` places on, as a rearrangement of the devices. -/
def turn (k : Fin 3) : Dev nD ≃ Dev nD := ⟨peer k, peer k.rev, peer_rev k, fun c => by
  have h := peer_rev k.rev c; rwa [Fin.rev_rev] at h⟩

/-! The `device_id` chains of the signals and the transfers. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 1 c := by revert c; decide +kernel
theorem dev5_eq (c : Dev nD) : (⟨k0_dev5 c, k0_dev5_lt c⟩ : Dev nD) = peer 0 c := by revert c; decide +kernel
theorem dev6_eq (c : Dev nD) : (⟨k0_dev6 c, k0_dev6_lt c⟩ : Dev nD) = peer 2 c := by revert c; decide +kernel
theorem dev7_eq (c : Dev nD) : (⟨k0_dev7 c, k0_dev7_lt c⟩ : Dev nD) = peer 1 c := by revert c; decide +kernel
theorem dev8_eq (c : Dev nD) : (⟨k0_dev8 c, k0_dev8_lt c⟩ : Dev nD) = peer 0 c := by revert c; decide +kernel
theorem dev9_eq (c : Dev nD) : (⟨k0_dev9 c, k0_dev9_lt c⟩ : Dev nD) = peer 2 c := by revert c; decide +kernel

/-! ## Slots -/

/-- Row `x 0`, column `x 1` of slot `p`. -/
def inSlot (p : Fin 4) (x : S64x256.Idx) : S4x64x256.Idx := Fin.cons p x
/-- The same, as the 1×64×256 block a load of a slot has. -/
def inOne (x : S64x256.Idx) : S1x64x256.Idx := Fin.cons (⟨0, Nat.one_pos⟩ : Fin 1) x
/-- Row and column of an element of an exchange buffer, its slot forgotten. -/
def rowCol (i : S4x64x256.Idx) : S64x256.Idx := Fin.tail i
/-- Row and column of an element of a 1×64×256 block. -/
def rowCol1 (i : S1x64x256.Idx) : S64x256.Idx := Fin.tail i

theorem inSlot_rowCol (i : S4x64x256.Idx) : inSlot (i 0) (rowCol i) = i := Fin.cons_self_tail i
theorem rowCol_inSlot (p : Fin 4) (x : S64x256.Idx) : rowCol (inSlot p x) = x := Fin.tail_cons _ _
theorem inSlot_zero (p : Fin 4) (x : S64x256.Idx) : inSlot p x 0 = p := rfl
theorem inOne_rowCol1 (i : S1x64x256.Idx) : inOne (rowCol1 i) = i := by
  have h : i 0 = (⟨0, Nat.one_pos⟩ : Fin 1) := Subsingleton.elim (α := Fin 1) _ _
  unfold inOne rowCol1; rw [← h]; exact Fin.cons_self_tail i

/-- The elements of slot `p`. -/
def slotSet (p : Fin 4) : Finset S4x64x256.Idx := Finset.univ.filter fun i => (i 0).val = p.val

theorem mem_slotSet {p : Fin 4} {i : S4x64x256.Idx} : i ∈ slotSet p ↔ i 0 = p := by
  unfold slotSet; rw [Finset.mem_filter]; exact ⟨fun h => Fin.ext h.2, fun h => ⟨Finset.mem_univ _, congrArg Fin.val h⟩⟩

theorem slot_disjoint {p q : Fin 4} (h : p ≠ q) : Disjoint (slotSet p) (slotSet q) :=
  Finset.disjoint_left.mpr fun i hi hj => h ((mem_slotSet.mp hi).symm.trans (mem_slotSet.mp hj))

/-- The four slots make up the buffer. -/
theorem slots_cover (c : Dev nD) :
    (Finset.univ : Finset S4x64x256.Idx) = slotSet c ∪ (slotSet (peer 0 c) ∪ (slotSet (peer 1 c) ∪ slotSet (peer 2 c))) := by
  ext i
  simp only [Finset.mem_univ, Finset.mem_union, mem_slotSet, true_iff]
  exact eq_or_peer c (i 0)

/-! ## Views of a slot -/

section Views

variable (M : Memref sig .tc .vmem S4x64x256 .bf16)
variable {off : Fin 3 → ℕ} (inb : ∀ a, off a + S1x64x256.size a ≤ S4x64x256.size a)

/-- The rectangle of one slot. -/
abbrev slotRect : Rect S4x64x256 := Rect.unit (s := S4x64x256) off S1x64x256.size inb

/-- A slot as a transfer names it. -/
abbrev slotRef : Memref sig .tc .vmem S64x256 .bf16 :=
  (M.slice (slotRect inb) (fun _ => rfl)).squeeze S64x256 squeezes_S1x64x256_S64x256

theorem slotRect_idx {p : Fin 4} (h : off = ![p.val, 0, 0]) (x : S1x64x256.Idx) :
    (slotRect inb).idx x = inSlot p (rowCol1 x) := by
  subst h
  have h0 : (x 0).val = 0 := by have := (x 0).isLt; simpa using this
  funext a
  apply Fin.ext
  rw [LoadRect.idx_apply]
  fin_cases a
  · show p.val + 1 * (x 0).val = p.val
    rw [h0]; rfl
  · show 0 + 1 * (x 1).val = (x 1).val
    omega
  · show 0 + 1 * (x 2).val = (x 2).val
    omega

theorem slotRect_set {p : Fin 4} (h : off = ![p.val, 0, 0]) : (slotRect inb).set = slotSet p := by
  ext i
  rw [mem_slotSet]
  constructor
  · intro hi
    obtain ⟨x, rfl⟩ : ∃ x, (slotRect inb).idx x = i := by
      rw [← Rect.map_emb_univ] at hi
      obtain ⟨x, -, e⟩ := Finset.mem_map.mp hi
      exact ⟨x, e⟩
    rw [slotRect_idx inb h]; rfl
  · intro hi
    rw [← inSlot_rowCol i, hi]
    have e := slotRect_idx inb h (inOne (rowCol i))
    rw [show rowCol1 (inOne (rowCol i)) = rowCol i from Fin.tail_cons _ _] at e
    rw [← e]
    exact LoadRect.idx_mem _ _

theorem slotRef_emb {p : Fin 4} (h : off = ![p.val, 0, 0]) (x : S64x256.Idx) :
    (slotRef M inb).view.emb x = M.view.emb (inSlot p x) := by
  show M.view.emb ((slotRect inb).emb (Shape.reshapeEquiv _ x)) = _
  congr 1
  rw [show Shape.reshapeEquiv (s := S1x64x256) (s' := S64x256) squeezes_S1x64x256_S64x256.numel_eq x = inOne x from
    Shape.reshapeEquiv_cons_one (n := 2) (d := ![64, 256]) _ x]
  refine (slotRect_idx inb h (inOne x)).trans ?_
  rw [show rowCol1 (inOne x) = x from Fin.tail_cons _ _]

end Views

/-- The elements of a whole exchange buffer under the view of a slot. -/
theorem slotRef_set (M : Memref sig .tc .vmem S4x64x256 .bf16) {off : Fin 3 → ℕ} (inb : ∀ a, off a + S1x64x256.size a ≤ S4x64x256.size a)
    {p : Fin 4} (h : off = ![p.val, 0, 0]) : (slotRef M inb).view.set = (slotSet p).map M.view.emb := by
  ext i
  constructor
  · intro hi
    obtain ⟨x, -, rfl⟩ := Finset.mem_map.mp hi
    rw [slotRef_emb M inb h]
    exact Finset.mem_map_of_mem _ (mem_slotSet.mpr rfl)
  · intro hi
    obtain ⟨j, hj, rfl⟩ := Finset.mem_map.mp hi
    rw [← inSlot_rowCol j, mem_slotSet.mp hj, ← slotRef_emb M inb h]
    exact View.emb_mem_set _ _

/-- A transfer out of slot `p` reads the buffer's elements there. -/
theorem slotRef_read (M : Memref sig .tc .vmem S4x64x256 .bf16) {off : Fin 3 → ℕ} (inb : ∀ a, off a + S1x64x256.size a ≤ S4x64x256.size a)
    {p : Fin 4} (h : off = ![p.val, 0, 0]) (f : M.view.ty.Contents (Elt F)) (x : S64x256.Idx) :
    (slotRef M inb).view.read (Elt F) f x = M.view.read (Elt F) f (inSlot p x) := by
  show _root_.cast _ (f ((slotRef M inb).view.emb x)) = _root_.cast _ (f (M.view.emb (inSlot p x)))
  congr 2
  exact slotRef_emb M inb h x

/-- A load of slot `p` reads the buffer's elements there. -/
theorem slot_readAt {e : EltTy} (M : Memref sig .tc .vmem S4x64x256 e) {off : Fin 3 → ℕ} (inb : ∀ a, off a + S1x64x256.size a ≤ S4x64x256.size a)
    {p : Fin 4} (h : off = ![p.val, 0, 0]) (f : M.view.ty.Contents (Elt F)) :
    M.view.readAt (Elt F) (slotRect inb).toLoadRect f = fun x => M.view.read (Elt F) f (inSlot p (rowCol1 x)) :=
  funext fun x => congrArg (M.view.read (Elt F) f) (slotRect_idx inb h x)

end Cert.Exchange
-- ==== Proof.Values.lean ====
/-
# `Values`: what each device computes and what the exchange buffers hold

Everything here is a function of the four devices' staged arguments (`Inputs`): a device's partial result (its two
experts' share of every row), the block another device sent it, the sum of the four shares of its own block of rows,
and the finished result it holds at the end.
-/
module

public import proofs.«01_k».proof.Proof.Places

@[expose] public section

noncomputable section

namespace Cert.Exchange

open Cert.KernelIdeal Cert.KernelIdeal.Gen
open Idealize.ShloMosaic

variable {F : FTy → Type} [FloatOps F]

/-- The arguments as the four devices' bodies find them staged. -/
structure Inputs (F : FTy → Type) where
  x : Dev nD → Vec F S256x128 .bf16
  router : Dev nD → Vec F S128x8 .bf16
  ids : Dev nD → Vec F S256x2 .i32
  w : Dev nD → Vec F S2x128x256 .bf16

variable (B : Inputs F)

/-- The device's own number as the kernel computes it. -/
def meWord (c : Dev nD) : BitVec 32 := Scalar.remsi (Scalar.divsi (Dev.word c) 1#32) 4#32

/-- The rectangles of the two columns of expert numbers. -/
abbrev col0 : Rect S256x2 := Rect.unit (s := S256x2) ![0, 0] S256x1.size inb_S256x2_S256x1_0_0
abbrev col1 : Rect S256x2 := Rect.unit (s := S256x2) ![0, 1] S256x1.size inb_S256x2_S256x1_0_1

def firstIds (c : Dev nD) : Vec F S256x1 .i32 := fun x => B.ids c (col0.idx x)
def secondIds (c : Dev nD) : Vec F S256x1 .i32 := fun x => B.ids c (col1.idx x)

/-- The column numbers 0 to 7 the gates are picked out by. -/
abbrev colIota : IVec S256x8 32 := iota .tc S256x8 32 [1] iota_S256x8_d1_w32

/-- The routing probabilities. -/
def probs (c : Dev nD) : FVec F S256x8 .f32 := k0_pay2 (B.x c) (B.router c)

/-- The tokens scaled by the gate of the device's first expert; the gate of its second. -/
def gatedX (c : Dev nD) : FVec F S256x128 .bf16 :=
  k0_pay10 (meWord c) (k0_pay1 (B.x c)) (probs B c) colIota (firstIds B c) (secondIds B c)
def gate1 (c : Dev nD) : FVec F S256x1 .f32 :=
  k0_pay11 (meWord c) (probs B c) colIota (firstIds B c) (secondIds B c)

/-- The device's share of the result, by blocks of rows: as accumulated, and as sent. -/
def share32 (c : Dev nD) : FVec F S4x64x256 .f32 := k0_pay13 (k0_pay1 (B.x c)) (gatedX B c) (gate1 B c) (B.w c)
def share16 (c : Dev nD) : FVec F S4x64x256 .bf16 := k0_pay14 (k0_pay1 (B.x c)) (gatedX B c) (gate1 B c) (B.w c)

/-- The device's share of its own block of rows. -/
def ownPart (c : Dev nD) : Vec F S1x64x256 .f32 := fun x => share32 B c (inSlot c (rowCol1 x))
/-- Device `p`'s share of device `c`'s block of rows, as `c` receives it. -/
def part (c p : Dev nD) : Vec F S1x64x256 .bf16 := fun x => share16 B p (inSlot c (rowCol1 x))

/-- Two of the four shares of the device's block summed; all four. -/
def twoParts (c : Dev nD) : FVec F S64x256 .f32 := k0_pay15 (ownPart B c) (part B c (peer 0 c))
def summed (c : Dev nD) : FVec F S64x256 .f32 := k0_pay16 (twoParts B c) (part B c (peer 2 c)) (part B c (peer 1 c))
/-- The finished block as it is handed to the other devices. -/
def handed (c : Dev nD) : FVec F S1x64x256 .bf16 := k0_pay17 (twoParts B c) (part B c (peer 2 c)) (part B c (peer 1 c))

/-- What the receive buffer of the first exchange holds on device `c` once device `p`'s block is in, in slot `p`. -/
def inbox (c : Dev nD) : Vec F S4x64x256 .bf16 := fun i => share16 B (i 0) (inSlot c (rowCol i))
/-- What the gather buffer holds, on every device alike: slot `p` is device `p`'s finished block. -/
def gathered : Vec F S4x64x256 .bf16 := fun i => handed B (i 0) (inOne (rowCol i))

/-! ## The result buffer, by blocks of rows -/

/-- The block a row of the result is in, and its place in the block. -/
def blockOf (i : S256x256.Idx) : Dev nD := ⟨(i 0).val / 64, by have h : (i 0).val < 256 := (i 0).isLt; show _ < 4; omega⟩
def within (i : S256x256.Idx) : S64x256.Idx :=
  Fin.cons (⟨(i 0).val % 64, Nat.mod_lt _ (by decide)⟩ : Fin 64) (Fin.cons (i 1) fun a => a.elim0)
/-- Row `x 0` of block `p` of the result. -/
def inBlock (p : Dev nD) (x : S64x256.Idx) : S256x256.Idx :=
  Fin.cons (⟨64 * p.val + (x 0).val, by
    have h : (x 0).val < 64 := (x 0).isLt
    have h' : p.val < 4 := p.isLt
    show _ < 256
    omega⟩ : Fin 256) (Fin.cons (x 1) fun a => a.elim0)

theorem idx2_ext {n₀ n₁ : ℕ} {i j : (⟨2, ![n₀, n₁]⟩ : Shape).Idx} (h0 : (i 0).val = (j 0).val) (h1 : (i 1).val = (j 1).val) : i = j := by
  funext a
  apply Fin.ext
  fin_cases a
  · exact h0
  · exact h1

theorem inBlock_within (i : S256x256.Idx) : inBlock (blockOf i) (within i) = i :=
  idx2_ext (by show 64 * ((i 0).val / 64) + (i 0).val % 64 = (i 0).val; omega) rfl
theorem blockOf_inBlock (p : Dev nD) (x : S64x256.Idx) : blockOf (inBlock p x) = p :=
  Fin.ext (by
    have h : (x 0).val < 64 := (x 0).isLt
    show (64 * p.val + (x 0).val) / 64 = p.val
    omega)
theorem within_inBlock (p : Dev nD) (x : S64x256.Idx) : within (inBlock p x) = x :=
  idx2_ext (by
    have h : (x 0).val < 64 := (x 0).isLt
    show (64 * p.val + (x 0).val) % 64 = (x 0).val
    omega) rfl

/-- A 64×256 block put over block `p` of the result. -/
def putBlock (p : Dev nD) (w : Vec F S64x256 .f32) (f : Vec F S256x256 .f32) : Vec F S256x256 .f32 :=
  fun i => if blockOf i = p then w (within i) else f i

/-- What device `c`'s result buffer holds at the end: its own block unrounded, the other three as handed over. -/
def result (c : Dev nD) : Vec F S256x256 .f32 := fun i =>
  if blockOf i = c then summed B c (within i)
  else k0_pay18 (fun x => gathered B (inSlot (blockOf i) (rowCol1 x))) (within i)

/-- The four stores leave the result, whatever the buffer held. -/
theorem result_eq (c : Dev nD) (f : Vec F S256x256 .f32) :
    putBlock (peer 1 c) (k0_pay20 fun x => gathered B (inSlot (peer 1 c) (rowCol1 x)))
      (putBlock (peer 2 c) (k0_pay19 fun x => gathered B (inSlot (peer 2 c) (rowCol1 x)))
        (putBlock (peer 0 c) (k0_pay18 fun x => gathered B (inSlot (peer 0 c) (rowCol1 x)))
          (putBlock c (summed B c) f))) = result B c := by
  funext i
  unfold putBlock result
  rcases eq_or_peer c (blockOf i) with h | h | h | h
  · rw [h, if_neg (fun e => peer_ne 1 c e.symm), if_neg (fun e => peer_ne 2 c e.symm), if_neg (fun e => peer_ne 0 c e.symm), if_pos rfl, if_pos rfl]
  · rw [h, if_neg (fun e => absurd (peer_inj c e) (by decide)), if_neg (fun e => absurd (peer_inj c e) (by decide)), if_pos rfl, if_neg (peer_ne 0 c)]
  · rw [h, if_pos rfl, if_neg (peer_ne 1 c)]; rfl
  · rw [h, if_neg (fun e => absurd (peer_inj c e) (by decide)), if_pos rfl, if_neg (peer_ne 2 c)]; rfl

/-! ## The loads and stores of rows -/

theorem rowRect_idx {off : Fin 2 → ℕ} (inb : ∀ a, off a + S64x256.size a ≤ S256x256.size a) {p : Dev nD} (h : off = ![64 * p.val, 0])
    (x : S64x256.Idx) : (Rect.unit (s := S256x256) off S64x256.size inb).idx x = inBlock p x := by
  subst h
  refine idx2_ext ?_ ?_
  · show 64 * p.val + 1 * (x 0).val = 64 * p.val + (x 0).val
    rw [Nat.one_mul]
  · show 0 + 1 * (x 1).val = (x 1).val
    omega

/-- A store of a block of rows over the result buffer. -/
theorem write_rows {off : Fin 2 → ℕ} (inb : ∀ a, off a + S64x256.size a ≤ S256x256.size a) {p : Dev nD} (h : off = ![64 * p.val, 0])
    (f : Vec F S256x256 .f32) (w : Vec F S64x256 .f32) :
    ((Memref.whole cc0_stg4_0 : Memref sig .tc .vmem S256x256 .f32).access (Rect.unit (s := S256x256) off S64x256.size inb) : View sig .tc _ _ _).write
      (Elt F) f w Finset.univ = putBlock p w f := by
  funext i
  unfold putBlock
  by_cases hi : blockOf i = p
  · rw [if_pos hi]
    have e : ((Memref.whole cc0_stg4_0 : Memref sig .tc .vmem S256x256 .f32).access (Rect.unit (s := S256x256) off S64x256.size inb) : View sig .tc _ _ _).emb (within i) = i := by
      refine (rowRect_idx inb h (within i)).trans ?_
      rw [← hi, inBlock_within]
    conv_lhs => rw [← e, View.write_emb_of_mem _ _ (Finset.mem_univ _)]
    rfl
  · rw [if_neg hi, View.write_of_not_mem]
    intro hm
    obtain ⟨x, -, e⟩ := Finset.mem_map.mp hm
    apply hi
    rw [← e]
    refine (congrArg blockOf (rowRect_idx inb h x)).trans (blockOf_inBlock p x)

/-- What the landing of device `p`'s slot `c` in slot `p` leaves there. -/
theorem landed_inbox {off off' : Fin 3 → ℕ} (inb : ∀ a, off a + S1x64x256.size a ≤ S4x64x256.size a)
    (inb' : ∀ a, off' a + S1x64x256.size a ≤ S4x64x256.size a) {c p : Dev nD} (h : off = ![c.val, 0, 0]) (h' : off' = ![p.val, 0, 0])
    (fd : Vec F S4x64x256 .bf16) (i : S4x64x256.Idx) (hi : i ∈ slotSet p) :
    (slotRef (Memref.whole cc0_scratch2) inb').view.write (Elt F) fd
      ((slotRef (Memref.whole cc0_scratch1) inb).view.read (Elt F) (share16 B p)) Finset.univ i = inbox B c i := by
  have e : (slotRef (Memref.whole cc0_scratch2) inb').view.emb (rowCol i) = i := by
    refine (slotRef_emb _ inb' h' (rowCol i)).trans ?_
    show inSlot p (rowCol i) = i
    rw [← mem_slotSet.mp hi, inSlot_rowCol]
  conv_lhs => rw [← e, View.write_emb_of_mem _ _ (Finset.mem_univ _)]
  show (slotRef (Memref.whole cc0_scratch1) inb).view.read (Elt F) (share16 B p) (rowCol i) = _
  rw [slotRef_read _ inb h]
  unfold inbox
  rw [mem_slotSet.mp hi]
  rfl

/-- What the landing of device `c`'s finished block in slot `c` of another device's gather buffer leaves there. -/
theorem landed_gathered {off off' : Fin 3 → ℕ} (inb : ∀ a, off a + S1x64x256.size a ≤ S4x64x256.size a)
    (inb' : ∀ a, off' a + S1x64x256.size a ≤ S4x64x256.size a) {c : Dev nD} (h : off = ![c.val, 0, 0]) (h' : off' = ![c.val, 0, 0])
    (fd : Vec F S4x64x256 .bf16) (i : S4x64x256.Idx) (hi : i ∈ slotSet c) :
    (slotRef (Memref.whole cc0_scratch3) inb').view.write (Elt F) fd
      ((slotRef (Memref.whole cc0_scratch3) inb).view.read (Elt F) (gathered B)) Finset.univ i = gathered B i := by
  have e : (slotRef (Memref.whole cc0_scratch3) inb').view.emb (rowCol i) = i := by
    refine (slotRef_emb _ inb' h' (rowCol i)).trans ?_
    show inSlot c (rowCol i) = i
    rw [← mem_slotSet.mp hi, inSlot_rowCol]
  conv_lhs => rw [← e, View.write_emb_of_mem _ _ (Finset.mem_univ _)]
  show (slotRef (Memref.whole cc0_scratch3) inb).view.read (Elt F) (gathered B) (rowCol i) = _
  rw [slotRef_read _ inb h]
  show gathered B (inSlot c (rowCol i)) = _
  rw [← mem_slotSet.mp hi, inSlot_rowCol]

/-- The store of the finished block over its own slot of the gather buffer. -/
theorem stored_gathered {off : Fin 3 → ℕ} (inb : ∀ a, off a + S1x64x256.size a ≤ S4x64x256.size a) {c : Dev nD} (h : off = ![c.val, 0, 0])
    (f : Vec F S4x64x256 .bf16) (i : S4x64x256.Idx) (hi : i ∈ slotSet c) :
    ((Memref.whole cc0_scratch3 : Memref sig .tc .vmem S4x64x256 .bf16).access (slotRect inb) : View sig .tc _ _ _).write
      (Elt F) f (handed B c) Finset.univ i = gathered B i := by
  have e : ((Memref.whole cc0_scratch3 : Memref sig .tc .vmem S4x64x256 .bf16).access (slotRect inb) : View sig .tc _ _ _).emb (inOne (rowCol i)) = i := by
    refine (slotRect_idx inb h (inOne (rowCol i))).trans ?_
    rw [show rowCol1 (inOne (rowCol i)) = rowCol i from Fin.tail_cons _ _, ← mem_slotSet.mp hi, inSlot_rowCol]
  conv_lhs => rw [← e, View.write_emb_of_mem _ _ (Finset.mem_univ _)]
  unfold gathered
  rw [mem_slotSet.mp hi]
  rfl

/-- The elements a store over a slot's rectangle touches are the slot's. -/
theorem access_slot_set (b : Memref sig .tc .vmem S4x64x256 .bf16) {off : Fin 3 → ℕ} (inb : ∀ a, off a + S1x64x256.size a ≤ S4x64x256.size a) {c : Dev nD}
    (h : off = ![c.val, 0, 0]) : (b.access (slotRect inb) : View sig .tc _ _ _).setOn Finset.univ = (slotSet c).map b.view.emb := by
  rw [View.setOn_univ]
  refine (View.set_slice b.view (slotRect inb)).trans ?_
  rw [slotRect_set inb h]

end Cert.Exchange
-- ==== Proof.Protocol.lean ====
/-
# `Protocol`: who signals whom, and what each semaphore's credit stands for

Per device there are fifteen semaphores of the exchange: the barrier, the three send and four receive semaphores of the
first exchange (`rsS`, `rsR`), and those of the second (`agS`, `agR`). Everything happens in one round:

* the barrier of device `c` is raised once by each of the other three; device `p`'s unit hands `c` the slot `c` of
  `p`'s receive buffer and of `p`'s gather buffer, the two places `c` writes on `p`;
* receive semaphore `p` of the first exchange on `c` is credited by `p`'s transfer, whose landing hands `c` slot `p` of
  its receive buffer, holding `p`'s share of `c`'s rows; send semaphore `k` hands back the slot that was sent to the
  device `k + 1` places on;
* receive semaphore `p` of the second on `c` hands `c` slot `p` of its gather buffer, holding `p`'s finished block; the
  three transfers of the device's own block read it at the same time, each at a share of it, which its send semaphore
  hands back.

A device's receive semaphore of its own number is never used.
-/
module

public import proofs.«01_k».proof.Proof.Values

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (B : Inputs F)

/-! ## The semaphores -/

/-- The semaphores of the exchange on one device. -/
inductive Cel where
  | bar
  | rsS (k : Fin 3)
  | rsR (p : Fin 4)
  | agS (k : Fin 3)
  | agR (p : Fin 4)
  deriving DecidableEq

namespace Cel

/-- All fifteen. -/
def all : List Cel :=
  [bar, rsS 0, rsS 1, rsS 2, rsR 0, rsR 1, rsR 2, rsR 3, agS 0, agS 1, agS 2, agR 0, agR 1, agR 2, agR 3]

theorem all_nodup : all.Nodup := by decide
theorem mem_all (j : Cel) : j ∈ all := by
  cases j with
  | bar => decide
  | rsS k => revert k; decide
  | rsR k => revert k; decide
  | agS k => revert k; decide
  | agR k => revert k; decide

instance : Fintype Cel := ⟨⟨all, all_nodup⟩, mem_all⟩

end Cel

open Cel

abbrev barS : Sem sig := (SemArray.scalar (sig.barrier 0 rfl) : Sems sig S_).sem

set_option backward.proofsInPublic true in
/-- The DMA semaphore `n + 5`. -/
abbrev dmaAt (n : ℕ) (h : n < 14) : DmaSem sig := (⟨n + 5, by omega⟩ : Fin 19)

def semOf : Cel → SemLoc sig
  | bar => .reg barS
  | rsS k => .dma (dmaAt k.val (by omega))
  | rsR p => .dma (dmaAt (3 + p.val) (by omega))
  | agS k => .dma (dmaAt (7 + k.val) (by omega))
  | agR p => .dma (dmaAt (10 + p.val) (by omega))

theorem semOf_injective : Function.Injective semOf := by
  intro a b
  revert a b
  decide +kernel

/-- The semaphore of the exchange a location is, if any. -/
def kindOf (s : SemLoc sig) : Option Cel := all.find? fun j => semOf j = s

theorem kindOf_semOf (j : Cel) : kindOf (semOf j) = some j := by
  revert j
  decide +kernel

abbrev cell (c : Dev nD) (j : Cel) : GSem nD τ sig := ((c : Thread nD τ), semOf j)

theorem cell_eq_iff {a b : Dev nD} {i j : Cel} : cell a i = cell b j ↔ a = b ∧ i = j :=
  ⟨fun h => ⟨congrArg (fun g : GSem nD τ sig => g.1.1) h, semOf_injective (congrArg (fun g : GSem nD τ sig => g.2) h)⟩,
    fun ⟨h, h'⟩ => by rw [h, h']⟩

/-! The semaphores as the kernel names them. -/
theorem sem_rsS (k : Fin 3) (inb : ∀ a, (![k.val] : Fin 1 → ℕ) a + S1.size a ≤ S3.size a) :
    SemLoc.dma ((cc0_scratch4.slice (Rect.unit (s := S3) ![k.val] S1.size inb)).squeeze S_ squeezes_S1_S_).sem = semOf (rsS k) := by
  revert k; decide +kernel
theorem sem_agS (k : Fin 3) (inb : ∀ a, (![k.val] : Fin 1 → ℕ) a + S1.size a ≤ S3.size a) :
    SemLoc.dma ((cc0_scratch6.slice (Rect.unit (s := S3) ![k.val] S1.size inb)).squeeze S_ squeezes_S1_S_).sem = semOf (agS k) := by
  revert k; decide +kernel
theorem sem_rsR {off : Fin 1 → ℕ} (p : Fin 4) (h : off = ![p.val]) (inb : ∀ a, off a + S1.size a ≤ S4.size a) :
    SemLoc.dma ((cc0_scratch5.slice (Rect.unit (s := S4) off S1.size inb)).squeeze S_ squeezes_S1_S_).sem = semOf (rsR p) := by
  subst h; revert p; decide +kernel
theorem sem_agR {off : Fin 1 → ℕ} (p : Fin 4) (h : off = ![p.val]) (inb : ∀ a, off a + S1.size a ≤ S4.size a) :
    SemLoc.dma ((cc0_scratch7.slice (Rect.unit (s := S4) off S1.size inb)).squeeze S_ squeezes_S1_S_).sem = semOf (agR p) := by
  subst h; revert p; decide +kernel

/-! ## The resources handed over -/

/-- The credit of one transfer of a slot. -/
def N : ℕ := (slotRef (Memref.whole cc0_scratch2) (off := ![0, 0, 0]) (by decide)).view.dmaCredit

def outSlot (c : Dev nD) (p : Fin 4) (f : Vec F S4x64x256 .bf16) : sProp 𝕄 :=
  ((c : Thread nD τ).loc cc0_scratch1) ↦[slotSet p]{fullShare} f
def inSlotPts (c : Dev nD) (p : Fin 4) (f : Vec F S4x64x256 .bf16) : sProp 𝕄 :=
  ((c : Thread nD τ).loc cc0_scratch2) ↦[slotSet p]{fullShare} f
def agSlot (q : PosShare TreeShare) (c : Dev nD) (p : Fin 4) (f : Vec F S4x64x256 .bf16) : sProp 𝕄 :=
  ((c : Thread nD τ).loc cc0_scratch3) ↦[slotSet p]{q} f

instance outSlot_storable (c : Dev nD) (p : Fin 4) (f) : BI.Storable (upEmb : UEmb _ 𝕄) (outSlot (F := F) c p f) := by unfold outSlot; infer_instance
instance inSlotPts_storable (c : Dev nD) (p : Fin 4) (f) : BI.Storable (upEmb : UEmb _ 𝕄) (inSlotPts (F := F) c p f) := by unfold inSlotPts; infer_instance
instance agSlot_storable (q) (c : Dev nD) (p : Fin 4) (f) : BI.Storable (upEmb : UEmb _ 𝕄) (agSlot (F := F) q c p f) := by unfold agSlot; infer_instance

theorem N_pos : 0 < N := View.dmaCredit_pos _ (by decide)

/-! A slot of any of the three buffers has that credit. -/
section Credit
variable {off : Fin 3 → ℕ} (inb : ∀ a, off a + S1x64x256.size a ≤ S4x64x256.size a)
theorem credit_out : (slotRef (Memref.whole cc0_scratch1) inb).view.dmaCredit = N := rfl
theorem credit_in : (slotRef (Memref.whole cc0_scratch2) inb).view.dmaCredit = N := rfl
theorem credit_ag : (slotRef (Memref.whole cc0_scratch3) inb).view.dmaCredit = N := rfl
end Credit

/-- The share of its own finished block device `c` lends to its transfer `k`. -/
def lent : Fin 3 → PosShare TreeShare
  | 0 => fullShare.left
  | 1 => fullShare.right.left
  | 2 => fullShare.right.right

/-- What device `p`'s unit on `c`'s barrier hands `c`. -/
def room (c p : Dev nD) : sProp 𝕄 := iprop((∃ f, inSlotPts p c f) ∗ ∃ f, agSlot fullShare p c f)

instance room_storable (c p : Dev nD) : BI.Storable (upEmb : UEmb _ 𝕄) (room (F := F) c p) := by unfold room; infer_instance

/-- What a credit on semaphore `j` of device `c` hands over. -/
def payOf (c : Dev nD) : Cel → Fin 4 → sProp 𝕄
  | bar, d => room c d
  | rsS k, _ => outSlot c (peer k c) (share16 B c)
  | rsR p, _ => inSlotPts c p (inbox B c)
  | agS k, _ => agSlot (lent k) c c (gathered B)
  | agR p, _ => agSlot fullShare c p (gathered B)

instance payOf_storable (c : Dev nD) (j : Cel) (d : Fin 4) : BI.Storable (upEmb : UEmb _ 𝕄) (payOf B c j d) := by
  cases j <;> (unfold payOf; infer_instance)

/-- The duties of the one round. -/
def dutiesOf (c : Dev nD) : Cel → Finset (Fin 4)
  | bar => Finset.univ.erase c
  | rsS _ => {0}
  | rsR p => if p = c then ∅ else {0}
  | agS _ => {0}
  | agR p => if p = c then ∅ else {0}

def amountOf : Cel → ℕ
  | bar => 1
  | _ => N

theorem amountOf_pos (j : Cel) : 0 < amountOf j := by
  cases j
  · exact Nat.one_pos
  all_goals exact N_pos

/-! ## The schedule -/

def sched : Rounds.Schedule (GSem nD τ sig) (Fin 4) 𝕄 where
  duties g r := if r = 0 ∧ g.1.2 = .tc then (kindOf g.2).elim ∅ (dutiesOf g.1.1) else ∅
  unitless _ := False
  amount g _ _ := (kindOf g.2).elim 1 amountOf
  payload g _ d := (kindOf g.2).elim iprop(emp) fun j => payOf B g.1.1 j d
  amount_pos g _ _ _ := by
    cases kindOf g.2 with
    | none => exact Nat.one_pos
    | some j => exact amountOf_pos j

instance sched_payload_storable (g : GSem nD τ sig) (r : ℕ) (d : Fin 4) :
    BI.Storable (upEmb : UEmb _ 𝕄) ((sched B).payload g r d) := by
  show BI.Storable upEmb ((kindOf g.2).elim iprop(emp) fun j => payOf B g.1.1 j d)
  cases kindOf g.2 with
  | none => show BI.Storable upEmb (iprop(emp) : sProp 𝕄); infer_instance
  | some j => show BI.Storable upEmb (payOf B g.1.1 j d); infer_instance

section Tables
variable (c : Dev nD) (j : Cel)

theorem duties_cell : (sched B).duties (cell c j) 0 = dutiesOf c j := by
  dsimp only [sched]
  rw [if_pos ⟨rfl, rfl⟩, kindOf_semOf]
  rfl
theorem duties_later (g : GSem nD τ sig) : ∀ r, 1 ≤ r → (sched B).duties g r = ∅ :=
  fun r hr => by dsimp only [sched]; rw [if_neg fun h => by omega]
theorem amount_cell (d : Fin 4) : (sched B).amount (cell c j) 0 d = amountOf j := by
  dsimp only [sched]; rw [kindOf_semOf]; rfl
theorem payload_cell (d : Fin 4) : (sched B).payload (cell c j) 0 d = payOf B c j d := by
  dsimp only [sched]; rw [kindOf_semOf]; rfl

theorem expect_bar : (sched B).expect (cell c bar) 0 = 3 := by
  unfold Schedule.expect Schedule.amountOf
  rw [duties_cell, Finset.sum_congr rfl fun d _ => amount_cell B c bar d, Finset.sum_const]
  show (Finset.univ.erase c).card • 1 = 3
  rw [Finset.card_erase_of_mem (Finset.mem_univ _)]; rfl

/-- A semaphore with the one duty is due its amount, and hands over its payload. -/
theorem expect_one (h : dutiesOf c j = {0}) : (sched B).expect (cell c j) 0 = amountOf j := by
  unfold Schedule.expect Schedule.amountOf; rw [duties_cell, h, Finset.sum_singleton, amount_cell]

theorem rest_one (h : dutiesOf c j = {0}) :
    bigSep ((sched B).duties (cell c j) 0 \ ∅) (fun d => (sched B).payload (cell c j) 0 d) = payOf B c j 0 := by
  rw [Finset.sdiff_empty, duties_cell, h, bigSep_singleton, payload_cell]

theorem erase_eq : Finset.univ.erase c = {peer 0 c, peer 1 c, peer 2 c} := by revert c; decide

/-- The barrier's three units hand over the room on the other three devices. -/
theorem rest_bar :
    bigSep ((sched B).duties (cell c bar) 0 \ ∅) (fun d => (sched B).payload (cell c bar) 0 d)
      = iprop(room c (peer 0 c) ∗ room c (peer 1 c) ∗ room c (peer 2 c)) := by
  rw [Finset.sdiff_empty, duties_cell]
  show bigSep (Finset.univ.erase c) _ = _
  rw [erase_eq, bigSep_insert (by revert c; decide), bigSep_insert (by revert c; decide), bigSep_singleton,
    payload_cell, payload_cell, payload_cell]
  rfl

end Tables

theorem dutiesOf_rsR {c p : Dev nD} (h : p ≠ c) : dutiesOf c (rsR p) = {0} := if_neg h
theorem dutiesOf_agR {c p : Dev nD} (h : p ≠ c) : dutiesOf c (agR p) = {0} := if_neg h

/-! ## What a device owes the others, and the order of waiting -/

/-- The sum of a list of dues, the first of the list the last summand. -/
def total : List (GSem nD τ sig × ℕ) → CellTallies nD τ sig Unit
  | [] => 0
  | x :: l => total l + tallyAt x.1 () x.2

/-- A device's dues, in the order it pays them. -/
def dues (c : Dev nD) : List (GSem nD τ sig × ℕ) :=
  [(cell (peer 0 c) bar, 1), (cell (peer 1 c) bar, 1), (cell (peer 2 c) bar, 1),
    (cell (peer 1 c) (rsR c), N), (cell (peer 0 c) (rsR c), N), (cell (peer 2 c) (rsR c), N),
    (cell (peer 1 c) (agR c), N), (cell (peer 0 c) (agR c), N), (cell (peer 2 c) (agR c), N)]

/-- What is still owed once the first `n` are paid. -/
abbrev owed (c : Dev nD) (n : ℕ) : CellTallies nD τ sig Unit := total ((dues c).drop n)

theorem total_pos {l : List (GSem nD τ sig × ℕ)} {g : GSem nD τ sig} {u : Unit} (h : 0 < total l g u) : ∃ n, (g, n) ∈ l := by
  induction l with
  | nil => exact absurd h (by show ¬ 0 < (0 : CellTallies nD τ sig Unit) g u; exact Nat.lt_irrefl 0)
  | cons x l ih =>
    by_cases e : g = x.1
    · exact ⟨x.2, by rw [e]; exact List.mem_cons_self⟩
    · have h' : 0 < total l g u := by
        have : total (x :: l) g u = total l g u := by
          show (total l + tallyAt x.1 () x.2) g u = _
          rw [Pi.add_apply, Finsupp.add_apply, tallyAt_apply, if_neg (fun h => e h.1), Nat.add_zero]
        rwa [this] at h
      obtain ⟨n, hn⟩ := ih h'
      exact ⟨n, List.mem_cons_of_mem _ hn⟩

def L (g : GSem nD τ sig) : Finset Unit := if g.1.2 = .tc then {()} else ∅
def levelOf : Cel → ℕ
  | bar => 1
  | rsR _ => 2
  | agR _ => 3
  | _ => 0
/-- The barrier before the first exchange before the second, everything local before all. -/
def lv (g : GSem nD τ sig) (_ : Unit) : ℕ := (kindOf g.2).elim 0 levelOf

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (j : Cel) (u : Unit) : lv (cell c j) u = levelOf j := by unfold lv; rw [kindOf_semOf]; rfl

/-- A wait at level `n` while everything owed is to a semaphore of the exchange above `n`. -/
theorem mayWait_of (c : Dev nD) (sm : SemLoc sig) (n : ℕ) (hs : lv ((c : Thread nD τ), sm) () ≤ n) (l : List (GSem nD τ sig × ℕ))
    (hl : ∀ x ∈ l, ∃ d j, x.1 = cell d j ∧ n < levelOf j) :
    (levAts L lv : sProp 𝕄) ⊢ MayWait (c : Thread nD τ) sm () (total l) :=
  MayOwe.of_cut (L := L) (lev := lv) n (fun p hp => by rw [Finset.mem_singleton.mp hp, L_tc]; exact Finset.mem_singleton_self _)
    (fun g u hg => by
      obtain ⟨k, hk⟩ := total_pos hg
      obtain ⟨d, j, e, -⟩ := hl _ hk
      rw [show g = cell d j from e, L_tc]; exact Finset.mem_singleton_self _)
    (fun p hp => by rw [Finset.mem_singleton.mp hp]; exact hs)
    (fun g u hg => by
      obtain ⟨k, hk⟩ := total_pos hg
      obtain ⟨d, j, e, h⟩ := hl _ hk
      rw [show g = cell d j from e, lv_cell]; exact h)

/-- Every due is to a semaphore of the exchange, at level one or more; -/
theorem dues_levels (c : Dev nD) : ∀ x ∈ (dues c).drop 0, ∃ d j, x.1 = cell d j ∧ 0 < levelOf j := by
  unfold dues
  simp only [List.drop_zero, List.forall_mem_cons]
  exact ⟨⟨_, _, rfl, by decide⟩, ⟨_, _, rfl, by decide⟩, ⟨_, _, rfl, by decide⟩, ⟨_, rsR c, rfl, Nat.succ_pos _⟩, ⟨_, rsR c, rfl, Nat.succ_pos _⟩,
    ⟨_, rsR c, rfl, Nat.succ_pos _⟩, ⟨_, agR c, rfl, Nat.succ_pos _⟩, ⟨_, agR c, rfl, Nat.succ_pos _⟩, ⟨_, agR c, rfl, Nat.succ_pos _⟩, fun x h => absurd h List.not_mem_nil⟩
/-- past the barrier, at two or more; -/
theorem dues_levels3 (c : Dev nD) : ∀ x ∈ (dues c).drop 3, ∃ d j, x.1 = cell d j ∧ 1 < levelOf j := by
  unfold dues
  simp only [List.drop_succ_cons, List.drop_zero, List.forall_mem_cons]
  exact ⟨⟨_, rsR c, rfl, by show 1 < 2; decide⟩, ⟨_, rsR c, rfl, by show 1 < 2; decide⟩,
    ⟨_, rsR c, rfl, by show 1 < 2; decide⟩, ⟨_, agR c, rfl, by show 1 < 3; decide⟩, ⟨_, agR c, rfl, by show 1 < 3; decide⟩, ⟨_, agR c, rfl, by show 1 < 3; decide⟩, fun x h => absurd h List.not_mem_nil⟩
/-- past the first exchange's sends, at three. -/
theorem dues_levels6 (c : Dev nD) : ∀ x ∈ (dues c).drop 6, ∃ d j, x.1 = cell d j ∧ 2 < levelOf j := by
  unfold dues
  simp only [List.drop_succ_cons, List.drop_zero, List.forall_mem_cons]
  exact ⟨⟨_, agR c, rfl, by show 2 < 3; decide⟩, ⟨_, agR c, rfl, by show 2 < 3; decide⟩, ⟨_, agR c, rfl, by show 2 < 3; decide⟩, fun x h => absurd h List.not_mem_nil⟩

/-! ## What a device's body starts from -/

/-- Every semaphore's invariant, at the name the launch put it under, and that its round is open. -/
def records (K : Dev nD × Cel → ℕ) : sProp 𝕄 :=
  iprop((bigSep Finset.univ fun x : Dev nD × Cel => cellInv ER (sched B) (K x) (cell x.1 x.2))
    ∗ bigSep Finset.univ fun x : Dev nD × Cel => reached ER (cell x.1 x.2) 0)

instance records_persistent (K : Dev nD × Cel → ℕ) : BI.Persistent (records B K) := by unfold records; infer_instance

theorem records_inv (K : Dev nD × Cel → ℕ) (c : Dev nD) (j : Cel) : records B K ⊢ cellInv ER (sched B) (K (c, j)) (cell c j) := by
  unfold records
  iintro ⟨H, -⟩
  iapply (show (bigSep Finset.univ fun x : Dev nD × Cel => (cellInv ER (sched B) (K x) (cell x.1 x.2) : sProp 𝕄))
      ⊢ cellInv ER (sched B) (K (c, j)) (cell c j) from bigSep_elim (Finset.mem_univ (c, j)))
  iexact H
theorem records_reached (K : Dev nD × Cel → ℕ) (c : Dev nD) (j : Cel) : records B K ⊢ reached ER (cell c j) 0 := by
  unfold records
  iintro ⟨-, H⟩
  iapply (show (bigSep Finset.univ fun x : Dev nD × Cel => (reached ER (cell x.1 x.2) 0 : sProp 𝕄))
      ⊢ reached ER (cell c j) 0 from bigSep_elim (Finset.mem_univ (c, j)))
  iexact H

/-- The right to pay, for the device `k + 1` places on: its barrier unit and the two landings there, and the returns of
    the two sends. -/
def rights (c : Dev nD) (k : Fin 3) : sProp 𝕄 :=
  iprop(dutyTok ER (cell (peer k c) bar) 0 c ∗ dutyTok ER (cell (peer k c) (rsR c)) 0 0 ∗ dutyTok ER (cell (peer k c) (agR c)) 0 0
    ∗ dutyTok ER (cell c (rsS k)) 0 0 ∗ dutyTok ER (cell c (agS k)) 0 0)

/-- Where the device stands on a semaphore of its own before the exchange; after it. -/
abbrev before (c : Dev nD) (j : Cel) : sProp 𝕄 := atPos ER (cell c j) 0 ∅ 0
abbrev closed (c : Dev nD) (j : Cel) : sProp 𝕄 := semVal (cell c j) 0

end Cert.Exchange
-- ==== Proof.Steps.lean ====
/-
# `Steps`: one rule per kind of step of the exchange

The signal, the barrier's wait, the two kinds of transfer and the waits on their semaphores, each from the resources the
device holds to those it holds afterwards.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cel

variable {F : FTy → Type} [FloatOps F]

local notation "𝕄" => MT nD τ sig Unit (Elt F) ℕ UU ℕ
local notation "Code" => Prog (TpuEff nD τ sig (Elt F) Λ₀ Proc.tc)

abbrev 𝒱₀ : Variants := Variants.none

/-- Device `c` runs `e` to `Q`. -/
abbrev runs (c : Dev nD) {α : Type} (e : Code α) (Q : α → sProp 𝕄) : sProp 𝕄 :=
  wp frame (wpE (defs₀ (F := F)) 𝒱₀ (c : Thread nD τ) none) Set.univ e Q

variable (B : Inputs F) (K : Dev nD × Cel → ℕ)
variable {α : Type}

/-- A unit on the barrier of the device `k + 1` places on, with the room for its two blocks here. -/
theorem signal_step {Q : α → sProp 𝕄} {kk : PUnit → Code α} (c n : Dev nD) (k : Fin 3) (hn : n = peer k c) {u : ℕ} (hu : 1 = u) (l : List (GSem nD τ sig × ℕ)) (W : Waits sig Unit) :
    iprop(records B K ∗ owes (c : Thread nD τ) (total ((cell (peer k c) bar, 1) :: l)) W ∗ dutyTok ER (cell (peer k c) bar) 0 c ∗ room (peer k c) c)
      ⊢ iprop((owes (c : Thread nD τ) (total l) W -∗ runs c (kk ⟨⟩) Q)
          -∗ runs c (.op (.semSignal (n : Thread nD τ) barS u) kk) Q) := by
  subst hn hu
  iintro ⟨#HR, HO, Ht, Hroom⟩
  iapply (Rounds.wp_signal 𝒱₀ ER (sched B) (c : Thread nD τ) none (dst := (peer k c : Thread nD τ)) (sem := barS) (κ := K (peer k c, bar))
      (d := c) (by
        rw [show (((peer k c : Dev nD) : Thread nD τ), SemLoc.reg barS) = cell (peer k c) bar from rfl, duties_cell]
        exact Finset.mem_erase.mpr ⟨(peer_ne k c).symm, Finset.mem_univ _⟩)
      (amount_cell B (peer k c) bar c) () (total l) rfl)
  isplitr; · iapply (records_inv B K (peer k c) bar); iexact HR
  isplitl [HO]; · iexact HO
  isplitl [Ht]; · iexact Ht
  isplitl [Hroom]
  · rw [show (((peer k c : Dev nD) : Thread nD τ), SemLoc.reg barS) = cell (peer k c) bar from rfl, payload_cell]
    iapply (show room (peer k c) c ⊢ payOf B (peer k c) bar c from Entails.refl _); iexact Hroom
  iapply (records_reached B K (peer k c) bar); iexact HR

/-- The barrier's wait: the room on the other three devices, and the barrier's semaphore at zero. -/
theorem barrier_step {Q : α → sProp 𝕄} {kk : PUnit → Code α} (c : Dev nD) {u : ℕ} (hu : u = 3) (W : Waits sig Unit) :
    iprop(records B K ∗ cred (tallyAt (cell c bar) () 3) ∗ owes (c : Thread nD τ) (owed c 3) W ∗ levAts L lv ∗ before c bar)
      ⊢ iprop(((∃ W', owes (c : Thread nD τ) (owed c 3) W') ∗ closed c bar ∗ room c (peer 0 c) ∗ room c (peer 1 c) ∗ room c (peer 2 c)
              -∗ runs c (kk ⟨⟩) Q)
          -∗ runs c (.op (.semWait barS u) kk) Q) := by
  subst hu
  iintro ⟨#HR, Hc, HO, #Hlev, Hat⟩ Hk
  iapply (Rounds.wp_wait_rest_token 𝒱₀ ER (sched B) (c : Thread nD τ) none (κ := K (c, bar))
      (wpE_semWait_eq 𝒱₀ (c : Thread nD τ) none Set.univ) (Set.mem_univ _) () (O := owed c 3) (W := W) (R := 0) (m := 0) (T := ∅)
      (by rw [show (((c : Dev nD) : Thread nD τ), SemLoc.reg barS) = cell c bar from rfl, expect_bar])) $$ [Hc HO Hat]
  · isplitr; · iapply (records_inv B K c bar); iexact HR
    isplitl [Hc]; · iexact Hc
    isplitl [HO]; · iexact HO
    isplitr; · iapply (mayWait_of c (semOf bar) 1 (le_of_eq (lv_cell c bar ())) _ (dues_levels3 c)); iexact Hlev
    iexact Hat
  iintro ⟨HO, Hat, -, Hpay⟩
  ihave Hpay := (show bigSep ((sched B).duties ((c : Thread nD τ), SemLoc.reg barS) 0 \ ∅) (fun d => (sched B).payload ((c : Thread nD τ), SemLoc.reg barS) 0 d)
      ⊢ iprop(room c (peer 0 c) ∗ room c (peer 1 c) ∗ room c (peer 2 c)) from Entails.of_eq (rest_bar B c)) $$ Hpay
  imod (Rounds.cell_close ER (sched B) (Set.mem_univ (K (c, bar))) (fun h => h) (R := 0 + 1) (duties_later B (cell c bar))) $$ [Hat] with Hz
  · isplitr; · iapply (records_inv B K c bar); iexact HR
    iexact Hat
  iapply Hk
  isplitl [HO]; · iexists _; iexact HO
  isplitl [Hz]; · iexact Hz
  iexact Hpay

/-- A wait on a transfer's semaphore, for its one credit: what the credit hands over, and the semaphore at zero. -/
theorem wait_step {Q : α → sProp 𝕄} {kk : PUnit → Code α} (c : Dev nD) (j : Cel) (hj : dutiesOf c j = {0}) (ha : amountOf j = N) {sem : DmaSem sig} (hs : SemLoc.dma sem = semOf j)
    {s' : Shape} {e' : EltTy} {sp' : Space} {src : Memref sig .tc sp' s' e'} {dst : Memref sig .tc .vmem S64x256 .bf16} {hsrc : src.view.WordExact} {hdst : dst.view.WordExact}
    (hN : dst.view.dmaCredit = N) (l : List (GSem nD τ sig × ℕ)) (hl : ∀ x ∈ l, ∃ d j', x.1 = cell d j' ∧ levelOf j < levelOf j') (W : Waits sig Unit) :
    iprop(records B K ∗ cred (tallyAt (cell c j) () N) ∗ owes (c : Thread nD τ) (total l) W ∗ levAts L lv ∗ before c j)
      ⊢ iprop(((∃ W', owes (c : Thread nD τ) (total l) W') ∗ closed c j ∗ payOf B c j 0 -∗ runs c (kk ⟨⟩) Q)
          -∗ runs c (.op (.waitDma2 sem src dst hsrc hdst) kk) Q) := by
  iintro ⟨#HR, Hc, HO, #Hlev, Hat⟩ Hk
  iapply (Rounds.wp_wait_rest_token 𝒱₀ ER (sched B) (c : Thread nD τ) none (κ := K (c, j)) (sm := semOf j) (k' := N)
      (fun Kt => (wpE_waitDma2_eq 𝒱₀ (c : Thread nD τ) none Set.univ Kt).trans (by rw [hs, hN])) (Set.mem_univ _) () (O := total l) (W := W) (R := 0) (m := 0) (T := ∅)
      (by rw [expect_one B c j hj, ha, Nat.zero_add])) $$ [Hc HO Hat]
  · isplitr; · iapply (records_inv B K c j); iexact HR
    isplitl [Hc]; · iexact Hc
    isplitl [HO]; · iexact HO
    isplitr; · iapply (mayWait_of c (semOf j) (levelOf j) (le_of_eq (lv_cell c j ())) l hl); iexact Hlev
    iexact Hat
  iintro ⟨HO, Hat, -, Hpay⟩
  ihave Hp := (Entails.of_eq (rest_one B c j hj)) $$ Hpay
  imod (Rounds.cell_close ER (sched B) (Set.mem_univ (K (c, j))) (fun h => h) (R := 0 + 1) (duties_later B (cell c j))) $$ [Hat] with Hz
  · isplitr; · iapply (records_inv B K c j); iexact HR
    iexact Hat
  iapply Hk
  isplitl [HO]; · iexists _; iexact HO
  isplitl [Hz]; · iexact Hz
  iexact Hp

/-- A transfer of the first exchange, to the device `k + 1` places on. -/
theorem scatter_step {Q : α → sProp 𝕄} {kk : PUnit → Code α} (c n : Dev nD) (k : Fin 3) (hn : n = peer k c) {off off' : Fin 3 → ℕ} {inb : ∀ a, off a + S1x64x256.size a ≤ S4x64x256.size a}
    {inb' : ∀ a, off' a + S1x64x256.size a ≤ S4x64x256.size a} (h : off = ![(peer k c).val, 0, 0]) (h' : off' = ![c.val, 0, 0])
    {sS sR : SemLoc sig} (hS : sS = semOf (rsS k)) (hR : sR = semOf (rsR c))
    {hsc : (slotRef (Memref.whole cc0_scratch2) inb' : Memref sig (Dev.tc n : Thread nD τ).2.kind .vmem S64x256 .bf16).view.ref.isScScratch = false}
    {hsrc : (slotRef (Memref.whole cc0_scratch1) inb).view.WordExact} {hdst : (slotRef (Memref.whole cc0_scratch2) inb').view.WordExact}
    {hsem : DmaTarget.Typed .vmem sR (.remote (Dev.tc n : Thread nD τ) (slotRef (Memref.whole cc0_scratch2) inb') sS hsc)}
    (l : List (GSem nD τ sig × ℕ)) (W : Waits sig Unit) (f : Vec F S4x64x256 .bf16) :
    iprop(records B K ∗ outSlot c (peer k c) (share16 B c) ∗ inSlotPts (peer k c) c f
        ∗ owes (c : Thread nD τ) (total ((cell (peer k c) (rsR c), N) :: l)) W
        ∗ dutyTok ER (cell c (rsS k)) 0 0 ∗ dutyTok ER (cell (peer k c) (rsR c)) 0 0)
      ⊢ iprop((cred (tallyAt (cell c (rsS k)) () N) ∗ owes (c : Thread nD τ) (total l) W -∗ runs c (kk ⟨⟩) Q)
          -∗ runs c (.op (.enqueueDma (slotRef (Memref.whole cc0_scratch1) inb)
                (.remote (Dev.tc n : Thread nD τ) (slotRef (Memref.whole cc0_scratch2) inb') sS hsc) sR hsrc hdst hsem) kk) Q) := by
  subst hn hS hR
  have hset : (slotRef (Memref.whole cc0_scratch1) inb).view.set = slotSet (peer k c) := (slotRef_set _ inb h).trans Finset.map_refl
  have hset' : (slotRef (Memref.whole cc0_scratch2) inb').view.set = slotSet c := (slotRef_set _ inb' h').trans Finset.map_refl
  have hpay1 : ((slotRef (Memref.whole cc0_scratch1) inb).view.loc (c : Thread nD τ) ↦[(slotRef (Memref.whole cc0_scratch1) inb).view.set]{fullShare} (share16 B c) : sProp 𝕄)
      ⊢ (sched B).payload (cell c (rsS k)) 0 0 := by
    rw [payload_cell, hset]; exact Entails.refl _
  have hpay2 : ((slotRef (Memref.whole cc0_scratch2) inb').view.loc ((peer k c : Dev nD) : Thread nD τ) ↦[(slotRef (Memref.whole cc0_scratch2) inb').view.set]{fullShare}
        ((slotRef (Memref.whole cc0_scratch2) inb').view.write (Elt F) f ((slotRef (Memref.whole cc0_scratch1) inb).view.read (Elt F) (share16 B c)) Finset.univ) : sProp 𝕄)
      ⊢ (sched B).payload (cell (peer k c) (rsR c)) 0 0 := by
    rw [payload_cell, hset']
    exact Entails.of_eq (pointsTo_congr fun i hi => landed_inbox B inb inb' h h' f i hi)
  iintro ⟨#HR, Hout, Hin, HO, HtS, HtR⟩
  iapply (Rounds.wp_send_pointsTo 𝒱₀ ER (sched B) (c : Thread nD τ) none (c' := (Dev.tc (peer k c) : Thread nD τ)) (κ₁ := K (c, rsS k)) (κ₂ := K (peer k c, rsR c))
    (r₁ := 0) (r₂ := 0) (d₁ := 0) (d₂ := 0) (q := fullShare) (fs := share16 B c) (fd := f)
    (by rw [duties_cell]; exact Finset.mem_singleton_self _)
    (by rw [duties_cell B (peer k c) (rsR c), dutiesOf_rsR (peer_ne k c).symm]; exact Finset.mem_singleton_self _)
    () () N (by exact credit_in inb') (amount_cell B c (rsS k) 0) (amount_cell B (peer k c) (rsR c) 0) (total l) rfl (W := W)
    (by exact hpay1)
    (by exact hpay2))
  isplitr; · iapply (records_inv B K c (rsS k)); iexact HR
  isplitr; · iapply (records_inv B K (peer k c) (rsR c)); iexact HR
  isplitl [Hout]; · rw [hset]; unfold outSlot; iexact Hout
  isplitl [Hin]; · rw [hset']; unfold inSlotPts; iexact Hin
  isplitl [HO]; · iexact HO
  isplitl [HtS]; · iexact HtS
  isplitr; · iapply (records_reached B K c (rsS k)); iexact HR
  isplitl [HtR]; · iexact HtR
  iapply (records_reached B K (peer k c) (rsR c)); iexact HR

/-- A transfer of the second exchange, to the device `k + 1` places on. -/
theorem gather_step {Q : α → sProp 𝕄} {kk : PUnit → Code α} (c n : Dev nD) (k : Fin 3) (hn : n = peer k c) {off off' : Fin 3 → ℕ} {inb : ∀ a, off a + S1x64x256.size a ≤ S4x64x256.size a}
    {inb' : ∀ a, off' a + S1x64x256.size a ≤ S4x64x256.size a} (h : off = ![c.val, 0, 0]) (h' : off' = ![c.val, 0, 0])
    {sS sR : SemLoc sig} (hS : sS = semOf (agS k)) (hR : sR = semOf (agR c))
    {hsc : (slotRef (Memref.whole cc0_scratch3) inb' : Memref sig (Dev.tc n : Thread nD τ).2.kind .vmem S64x256 .bf16).view.ref.isScScratch = false}
    {hsrc : (slotRef (Memref.whole cc0_scratch3) inb).view.WordExact} {hdst : (slotRef (Memref.whole cc0_scratch3) inb').view.WordExact}
    {hsem : DmaTarget.Typed .vmem sR (.remote (Dev.tc n : Thread nD τ) (slotRef (Memref.whole cc0_scratch3) inb') sS hsc)}
    (l : List (GSem nD τ sig × ℕ)) (W : Waits sig Unit) (f : Vec F S4x64x256 .bf16) :
    iprop(records B K ∗ agSlot (lent k) c c (gathered B) ∗ agSlot fullShare (peer k c) c f
        ∗ owes (c : Thread nD τ) (total ((cell (peer k c) (agR c), N) :: l)) W
        ∗ dutyTok ER (cell c (agS k)) 0 0 ∗ dutyTok ER (cell (peer k c) (agR c)) 0 0)
      ⊢ iprop((cred (tallyAt (cell c (agS k)) () N) ∗ owes (c : Thread nD τ) (total l) W -∗ runs c (kk ⟨⟩) Q)
          -∗ runs c (.op (.enqueueDma (slotRef (Memref.whole cc0_scratch3) inb)
                (.remote (Dev.tc n : Thread nD τ) (slotRef (Memref.whole cc0_scratch3) inb') sS hsc) sR hsrc hdst hsem) kk) Q) := by
  subst hn hS hR
  have hset : (slotRef (Memref.whole cc0_scratch3) inb).view.set = slotSet c := (slotRef_set _ inb h).trans Finset.map_refl
  have hset' : (slotRef (Memref.whole cc0_scratch3) inb').view.set = slotSet c := (slotRef_set _ inb' h').trans Finset.map_refl
  have hpay1 : ((slotRef (Memref.whole cc0_scratch3) inb).view.loc (c : Thread nD τ) ↦[(slotRef (Memref.whole cc0_scratch3) inb).view.set]{(lent k)} (gathered B) : sProp 𝕄)
      ⊢ (sched B).payload (cell c (agS k)) 0 0 := by
    rw [payload_cell, hset]; exact Entails.refl _
  have hpay2 : ((slotRef (Memref.whole cc0_scratch3) inb').view.loc ((peer k c : Dev nD) : Thread nD τ) ↦[(slotRef (Memref.whole cc0_scratch3) inb').view.set]{fullShare}
        ((slotRef (Memref.whole cc0_scratch3) inb').view.write (Elt F) f ((slotRef (Memref.whole cc0_scratch3) inb).view.read (Elt F) (gathered B)) Finset.univ) : sProp 𝕄)
      ⊢ (sched B).payload (cell (peer k c) (agR c)) 0 0 := by
    rw [payload_cell, hset']
    exact Entails.of_eq (pointsTo_congr fun i hi => landed_gathered B inb inb' h h' f i hi)
  iintro ⟨#HR, Hout, Hin, HO, HtS, HtR⟩
  iapply (Rounds.wp_send_pointsTo 𝒱₀ ER (sched B) (c : Thread nD τ) none (c' := (Dev.tc (peer k c) : Thread nD τ)) (κ₁ := K (c, agS k)) (κ₂ := K (peer k c, agR c))
    (r₁ := 0) (r₂ := 0) (d₁ := 0) (d₂ := 0) (q := lent k) (fs := gathered B) (fd := f)
    (by rw [duties_cell]; exact Finset.mem_singleton_self _)
    (by rw [duties_cell B (peer k c) (agR c), dutiesOf_agR (peer_ne k c).symm]; exact Finset.mem_singleton_self _)
    () () N (by exact credit_ag inb') (amount_cell B c (agS k) 0) (amount_cell B (peer k c) (agR c) 0) (total l) rfl (W := W)
    (by exact hpay1)
    (by exact hpay2))
  isplitr; · iapply (records_inv B K c (agS k)); iexact HR
  isplitr; · iapply (records_inv B K (peer k c) (agR c)); iexact HR
  isplitl [Hout]; · rw [hset]; unfold agSlot; iexact Hout
  isplitl [Hin]; · rw [hset']; unfold agSlot; iexact Hin
  isplitl [HO]; · iexact HO
  isplitl [HtS]; · iexact HtS
  isplitr; · iapply (records_reached B K c (agS k)); iexact HR
  isplitl [HtR]; · iexact HtR
  iapply (records_reached B K (peer k c) (agR c)); iexact HR

end Cert.Exchange
-- ==== Proof.Access.lean ====
/-
# `Access`: buffers split into slots and shares, and the loads and stores of the body

A whole exchange buffer is its four slots; the device's own finished block is its three lent shares. The loads and
stores are stated with the value the vector dialect reads or leaves.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cel

variable {F : FTy → Type} [FloatOps F]

local notation "𝕄" => MT nD τ sig Unit (Elt F) ℕ UU ℕ
local notation "Code" => Prog (TpuEff nD τ sig (Elt F) Λ₀ Proc.tc)

variable (B : Inputs F) (K : Dev nD × Cel → ℕ)
variable {α : Type}

/-- A whole buffer of device `c`. -/
abbrev whole (c : Dev nD) (b : Ref sig .tc) (X : b.ty.Contents (Elt F)) : sProp 𝕄 := ((c : Thread nD τ).loc b) ↦{fullShare} X

theorem slots_disjoint1 (c : Dev nD) : Disjoint (slotSet (peer 1 c)) (slotSet (peer 2 c)) :=
  slot_disjoint fun e => absurd (peer_inj c e) (by decide)
theorem slots_disjoint0 (c : Dev nD) : Disjoint (slotSet (peer 0 c)) (slotSet (peer 1 c) ∪ slotSet (peer 2 c)) :=
  Finset.disjoint_union_right.mpr ⟨slot_disjoint fun e => absurd (peer_inj c e) (by decide), slot_disjoint fun e => absurd (peer_inj c e) (by decide)⟩
theorem slots_disjoint (c : Dev nD) : Disjoint (slotSet c) (slotSet (peer 0 c) ∪ (slotSet (peer 1 c) ∪ slotSet (peer 2 c))) :=
  Finset.disjoint_union_right.mpr ⟨slot_disjoint (peer_ne 0 c).symm,
    Finset.disjoint_union_right.mpr ⟨slot_disjoint (peer_ne 1 c).symm, slot_disjoint (peer_ne 2 c).symm⟩⟩

/-! ## Whole buffers and their slots -/

/-- What splits along disjoint sets of elements splits into the four slots. -/
theorem split_slots (P : Finset S4x64x256.Idx → sProp 𝕄) (hP : ∀ I J, Disjoint I J → P (I ∪ J) ⊢ iprop(P I ∗ P J)) (c : Dev nD) :
    P Finset.univ ⊢ iprop(P (slotSet c) ∗ P (slotSet (peer 0 c)) ∗ P (slotSet (peer 1 c)) ∗ P (slotSet (peer 2 c))) := by
  rw [slots_cover c]
  iintro H
  ihave H := (hP _ _ (slots_disjoint c)) $$ H
  icases H with ⟨H, H'⟩
  isplitl [H]; · iexact H
  ihave H' := (hP _ _ (slots_disjoint0 c)) $$ H'
  icases H' with ⟨H, H'⟩
  isplitl [H]; · iexact H
  iapply (hP _ _ (slots_disjoint1 c)); iexact H'

/-- What joins along disjoint sets of elements joins from the four slots. -/
theorem join_slots (P : Finset S4x64x256.Idx → Vec F S4x64x256 .bf16 → sProp 𝕄)
    (hP : ∀ I J f g, Disjoint I J → iprop(P I f ∗ P J g) ⊢ iprop(∃ h, P (I ∪ J) h)) (c : Dev nD) (f f0 f1 f2 : Vec F S4x64x256 .bf16) :
    iprop(P (slotSet c) f ∗ P (slotSet (peer 0 c)) f0 ∗ P (slotSet (peer 1 c)) f1 ∗ P (slotSet (peer 2 c)) f2)
      ⊢ iprop(∃ h, P Finset.univ h) := by
  rw [slots_cover c]
  iintro ⟨H, H0, H1, H2⟩
  ihave H := (hP _ _ f1 f2 (slots_disjoint1 c)) $$ [H1 H2]
  · isplitl [H1] <;> iassumption
  icases H with ⟨%h1, H1⟩
  ihave H := (hP _ _ f0 h1 (slots_disjoint0 c)) $$ [H0 H1]
  · isplitl [H0] <;> iassumption
  icases H with ⟨%h0, H0⟩
  iapply (hP _ _ f h0 (slots_disjoint c))
  isplitl [H] <;> iassumption

theorem out_slots (c : Dev nD) (f : Vec F S4x64x256 .bf16) :
    (whole c cc0_scratch1 f : sProp 𝕄) ⊢ iprop(outSlot c c f ∗ outSlot c (peer 0 c) f ∗ outSlot c (peer 1 c) f ∗ outSlot c (peer 2 c) f) :=
  split_slots (fun S => ((c : Thread nD τ).loc cc0_scratch1) ↦[S]{fullShare} f) (fun _ _ h => (pointsTo_union h).1) c
theorem in_slots (c : Dev nD) (f : Vec F S4x64x256 .bf16) :
    (whole c cc0_scratch2 f : sProp 𝕄) ⊢ iprop(inSlotPts c c f ∗ inSlotPts c (peer 0 c) f ∗ inSlotPts c (peer 1 c) f ∗ inSlotPts c (peer 2 c) f) :=
  split_slots (fun S => ((c : Thread nD τ).loc cc0_scratch2) ↦[S]{fullShare} f) (fun _ _ h => (pointsTo_union h).1) c
theorem ag_slots (c : Dev nD) (f : Vec F S4x64x256 .bf16) :
    (whole c cc0_scratch3 f : sProp 𝕄) ⊢ iprop(agSlot fullShare c c f ∗ agSlot fullShare c (peer 0 c) f ∗ agSlot fullShare c (peer 1 c) f ∗ agSlot fullShare c (peer 2 c) f) :=
  split_slots (fun S => ((c : Thread nD τ).loc cc0_scratch3) ↦[S]{fullShare} f) (fun _ _ h => (pointsTo_union h).1) c

theorem out_join (c : Dev nD) (f f0 f1 f2 : Vec F S4x64x256 .bf16) :
    iprop(outSlot c c f ∗ outSlot c (peer 0 c) f0 ∗ outSlot c (peer 1 c) f1 ∗ outSlot c (peer 2 c) f2) ⊢ iprop(∃ h, (whole c cc0_scratch1 h : sProp 𝕄)) :=
  join_slots (fun S f => ((c : Thread nD τ).loc cc0_scratch1) ↦[S]{fullShare} f) (fun I J f g h => by
    iintro H; iexists _; iapply (pointsTo_join h); iexact H) c f f0 f1 f2
theorem in_join (c : Dev nD) (f f0 f1 f2 : Vec F S4x64x256 .bf16) :
    iprop(inSlotPts c c f ∗ inSlotPts c (peer 0 c) f0 ∗ inSlotPts c (peer 1 c) f1 ∗ inSlotPts c (peer 2 c) f2) ⊢ iprop(∃ h, (whole c cc0_scratch2 h : sProp 𝕄)) :=
  join_slots (fun S f => ((c : Thread nD τ).loc cc0_scratch2) ↦[S]{fullShare} f) (fun I J f g h => by
    iintro H; iexists _; iapply (pointsTo_join h); iexact H) c f f0 f1 f2
theorem ag_join (c : Dev nD) (f f0 f1 f2 : Vec F S4x64x256 .bf16) :
    iprop(agSlot fullShare c c f ∗ agSlot fullShare c (peer 0 c) f0 ∗ agSlot fullShare c (peer 1 c) f1 ∗ agSlot fullShare c (peer 2 c) f2) ⊢ iprop(∃ h, (whole c cc0_scratch3 h : sProp 𝕄)) :=
  join_slots (fun S f => ((c : Thread nD τ).loc cc0_scratch3) ↦[S]{fullShare} f) (fun I J f g h => by
    iintro H; iexists _; iapply (pointsTo_join h); iexact H) c f f0 f1 f2

/-- The device's own finished block, lent to its three transfers; and given back. -/
theorem lend (c : Dev nD) (f : Vec F S4x64x256 .bf16) :
    (agSlot fullShare c c f : sProp 𝕄) ⊣⊢ iprop(agSlot (lent 0) c c f ∗ agSlot (lent 1) c c f ∗ agSlot (lent 2) c c f) := by
  have h1 := pointsTo_share (Ix := Unit) (Name := ℕ) (U := UU) (Lvl := ℕ) (Val := Elt F) (ℓ := ((c : Thread nD τ).loc cc0_scratch3)) (I := slotSet c) (f := f) (PosShare.mem_left_op_right fullShare)
  have h2 := pointsTo_share (Ix := Unit) (Name := ℕ) (U := UU) (Lvl := ℕ) (Val := Elt F) (ℓ := ((c : Thread nD τ).loc cc0_scratch3)) (I := slotSet c) (f := f) (PosShare.mem_left_op_right fullShare.right)
  unfold agSlot lent
  exact ⟨h1.1.trans (sep_mono_right h2.1), (sep_mono_right h2.2).trans h1.2⟩

/-! ## Loads and stores -/

/-- A program that is over. -/
theorem finish {Q : α → sProp 𝕄} (c : Dev nD) (a : α) : Q a ⊢ runs c (.ret a) Q := by
  unfold runs
  rw [wp_ret]
  iintro H; imodintro; iexact H

theorem hz2 : (![0, 0] : Fin 2 → ℕ) = fun _ => 0 := funext fun a => by fin_cases a <;> rfl
theorem hz3 : (![0, 0, 0] : Fin 3 → ℕ) = fun _ => 0 := funext fun a => by fin_cases a <;> rfl

/-- A load of a slot of the accumulator. -/
theorem load_acc {Q : α → sProp 𝕄} (c : Dev nD) {off : Fin 3 → ℕ} {inb : ∀ a, off a + S1x64x256.size a ≤ S4x64x256.size a} {p : Fin 4} (h : off = ![p.val, 0, 0])
    {hl : (Memref.whole cc0_scratch0 : Memref sig .tc .vmem S4x64x256 .f32).view.LoadsAt (slotRect inb).toLoadRect} {kk : Vec F S1x64x256 .f32 → Code α}
    (f : Vec F S4x64x256 .f32) :
    (whole c cc0_scratch0 f : sProp 𝕄)
      ⊢ iprop((whole c cc0_scratch0 f -∗ runs c (kk fun x => f (inSlot p (rowCol1 x))) Q)
          -∗ runs c (.op (.load (Memref.whole cc0_scratch0) (slotRect inb).toLoadRect hl) kk) Q) := by
  have e : (Memref.whole cc0_scratch0 : Memref sig .tc .vmem S4x64x256 .f32).view.readAt (Elt F) (slotRect inb).toLoadRect f
      = fun x => f (inSlot p (rowCol1 x)) := slot_readAt (F := F) (Memref.whole cc0_scratch0 : Memref sig .tc .vmem S4x64x256 .f32) inb h f
  rw [← e]
  exact wp_load 𝒱₀ (c : Thread nD τ) none Set.univ (m := (Memref.whole cc0_scratch0 : Memref sig .tc .vmem S4x64x256 .f32)) (Finset.subset_univ _)

/-- A load of a slot of the first exchange's receive buffer, from that slot. -/
theorem load_in {Q : α → sProp 𝕄} (c : Dev nD) {off : Fin 3 → ℕ} {inb : ∀ a, off a + S1x64x256.size a ≤ S4x64x256.size a} {p : Fin 4} (h : off = ![p.val, 0, 0])
    {hl : (Memref.whole cc0_scratch2 : Memref sig .tc .vmem S4x64x256 .bf16).view.LoadsAt (slotRect inb).toLoadRect} {kk : Vec F S1x64x256 .bf16 → Code α}
    (f : Vec F S4x64x256 .bf16) :
    (inSlotPts c p f : sProp 𝕄)
      ⊢ iprop((inSlotPts c p f -∗ runs c (kk fun x => f (inSlot p (rowCol1 x))) Q)
          -∗ runs c (.op (.load (Memref.whole cc0_scratch2) (slotRect inb).toLoadRect hl) kk) Q) := by
  have e : (Memref.whole cc0_scratch2 : Memref sig .tc .vmem S4x64x256 .bf16).view.readAt (Elt F) (slotRect inb).toLoadRect f
      = fun x => f (inSlot p (rowCol1 x)) := slot_readAt (F := F) (Memref.whole cc0_scratch2 : Memref sig .tc .vmem S4x64x256 .bf16) inb h f
  rw [← e]
  refine wp_load 𝒱₀ (c : Thread nD τ) none Set.univ (m := (Memref.whole cc0_scratch2 : Memref sig .tc .vmem S4x64x256 .bf16)) ?_
  show (slotRect inb).set.map (Function.Embedding.refl _) ⊆ slotSet p
  rw [slotRect_set inb h, Finset.map_refl]

/-- A load of a slot of the gather buffer, from that slot. -/
theorem load_ag {Q : α → sProp 𝕄} (c : Dev nD) {off : Fin 3 → ℕ} {inb : ∀ a, off a + S1x64x256.size a ≤ S4x64x256.size a} {p : Fin 4} (h : off = ![p.val, 0, 0])
    {hl : (Memref.whole cc0_scratch3 : Memref sig .tc .vmem S4x64x256 .bf16).view.LoadsAt (slotRect inb).toLoadRect} {kk : Vec F S1x64x256 .bf16 → Code α}
    (f : Vec F S4x64x256 .bf16) :
    (agSlot fullShare c p f : sProp 𝕄)
      ⊢ iprop((agSlot fullShare c p f -∗ runs c (kk fun x => f (inSlot p (rowCol1 x))) Q)
          -∗ runs c (.op (.load (Memref.whole cc0_scratch3) (slotRect inb).toLoadRect hl) kk) Q) := by
  have e : (Memref.whole cc0_scratch3 : Memref sig .tc .vmem S4x64x256 .bf16).view.readAt (Elt F) (slotRect inb).toLoadRect f
      = fun x => f (inSlot p (rowCol1 x)) := slot_readAt (F := F) (Memref.whole cc0_scratch3 : Memref sig .tc .vmem S4x64x256 .bf16) inb h f
  rw [← e]
  refine wp_load 𝒱₀ (c : Thread nD τ) none Set.univ (m := (Memref.whole cc0_scratch3 : Memref sig .tc .vmem S4x64x256 .bf16)) ?_
  show (slotRect inb).set.map (Function.Embedding.refl _) ⊆ slotSet p
  rw [slotRect_set inb h, Finset.map_refl]

/-- The store of the finished block over the device's own slot of the gather buffer. -/
theorem store_ag {Q : α → sProp 𝕄} (c : Dev nD) {off : Fin 3 → ℕ} {inb : ∀ a, off a + S1x64x256.size a ≤ S4x64x256.size a} (h : off = ![c.val, 0, 0])
    {hx : ((Memref.whole cc0_scratch3 : Memref sig .tc .vmem S4x64x256 .bf16).access (slotRect inb)).Stores Finset.univ}
    {hm : (Finset.univ : Finset (slotRect inb).shape.Idx) = Finset.univ ∨ ∀ a, (slotRect inb).stride a = 1} {kk : PUnit → Code α}
    (f : Vec F S4x64x256 .bf16) :
    (agSlot fullShare c c f : sProp 𝕄)
      ⊢ iprop((agSlot fullShare c c (gathered B) -∗ runs c (kk ⟨⟩) Q)
          -∗ runs c (.op (.store (Memref.whole cc0_scratch3) (slotRect inb) (handed B c) Finset.univ hx hm) kk) Q) := by
  have e : (agSlot fullShare c c (gathered B) : sProp 𝕄)
      = agSlot fullShare c c (((Memref.whole cc0_scratch3 : Memref sig .tc .vmem S4x64x256 .bf16).access (slotRect inb) : View sig .tc _ _ _).write
      (Elt F) f (handed B c) Finset.univ) := pointsTo_congr fun i hi => (stored_gathered B inb h f i hi).symm
  rw [e]
  refine wp_store 𝒱₀ (c : Thread nD τ) none Set.univ (m := (Memref.whole cc0_scratch3 : Memref sig .tc .vmem S4x64x256 .bf16)) (r := slotRect inb) (Mk := Finset.univ) ?_
  exact Finset.subset_of_eq ((access_slot_set _ inb h).trans Finset.map_refl)

/-- A load of rows of the result buffer, whose value goes unused. -/
theorem load_rows {Q : α → sProp 𝕄} (c : Dev nD) {r : Rect S256x256}
    {hl : (Memref.whole cc0_stg4_0 : Memref sig .tc .vmem S256x256 .f32).view.LoadsAt r.toLoadRect} {kk : Vec F r.shape .f32 → Code α} {k' : Code α}
    (hk : ∀ v, kk v = k') (f : Vec F S256x256 .f32) :
    (whole c cc0_stg4_0 f : sProp 𝕄)
      ⊢ iprop((whole c cc0_stg4_0 f -∗ runs c k' Q) -∗ runs c (.op (.load (Memref.whole cc0_stg4_0) r.toLoadRect hl) kk) Q) := by
  rw [← hk ((Memref.whole cc0_stg4_0 : Memref sig .tc .vmem S256x256 .f32).view.readAt (Elt F) r.toLoadRect f)]
  exact wp_load 𝒱₀ (c : Thread nD τ) none Set.univ (m := (Memref.whole cc0_stg4_0 : Memref sig .tc .vmem S256x256 .f32)) (Finset.subset_univ _)

/-- A store of a block of rows of the result. -/
theorem store_rows {Q : α → sProp 𝕄} (c : Dev nD) {off : Fin 2 → ℕ} {inb : ∀ a, off a + S64x256.size a ≤ S256x256.size a} {p : Dev nD} (h : off = ![64 * p.val, 0])
    {w : Vec F S64x256 .f32}
    {hx : ((Memref.whole cc0_stg4_0 : Memref sig .tc .vmem S256x256 .f32).access (Rect.unit (s := S256x256) off S64x256.size inb)).Stores Finset.univ}
    {hm : (Finset.univ : Finset (Rect.unit (s := S256x256) off S64x256.size inb).shape.Idx) = Finset.univ ∨ ∀ a, (Rect.unit (s := S256x256) off S64x256.size inb).stride a = 1}
    {kk : PUnit → Code α} (f : Vec F S256x256 .f32) :
    (whole c cc0_stg4_0 f : sProp 𝕄)
      ⊢ iprop((whole c cc0_stg4_0 (putBlock p w f) -∗ runs c (kk ⟨⟩) Q)
          -∗ runs c (.op (.store (Memref.whole cc0_stg4_0) (Rect.unit (s := S256x256) off S64x256.size inb) w Finset.univ hx hm) kk) Q) := by
  rw [← write_rows inb h f w]
  exact wp_store 𝒱₀ (c : Thread nD τ) none Set.univ (m := (Memref.whole cc0_stg4_0 : Memref sig .tc .vmem S256x256 .f32))
    (r := Rect.unit (s := S256x256) off S64x256.size inb) (Mk := Finset.univ) (Finset.subset_univ _)

end Cert.Exchange
-- ==== Proof.First.lean ====
/-
# `First`: the first half of the body

From the start to the first exchange: the barrier, the routing and the one product, the three transfers out. Each part
of the body as printed is one theorem, from what it uses to what it leaves.
-/
module

public import proofs.«01_k».proof.Proof.Access

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cel

variable {F : FTy → Type} [FloatOps F]

local notation "𝕄" => MT nD τ sig Unit (Elt F) ℕ UU ℕ
local notation "Code" => Prog (TpuEff nD τ sig (Elt F) Λ₀ Proc.tc)

variable (B : Inputs F) (K : Dev nD × Cel → ℕ)

/-! The offsets of the slots and rows, at the literals the body has. -/
theorem off2_own (c : Dev nD) : k0_off2 c = ![c.val, 0, 0] := k0_off2_eq c
theorem off4_own (c : Dev nD) : k0_off4 c = ![c.val, 0, 0] := k0_off4_eq c
theorem off3_0 (c : Dev nD) : k0_off3 c 1#32 = ![(peer 0 c).val, 0, 0] := k0_off3_eq c 0
theorem off3_1 (c : Dev nD) : k0_off3 c 2#32 = ![(peer 1 c).val, 0, 0] := k0_off3_eq c 1
theorem off3_2 (c : Dev nD) : k0_off3 c 3#32 = ![(peer 2 c).val, 0, 0] := k0_off3_eq c 2
theorem off5_0 (c : Dev nD) : k0_off5 c 1#32 = ![(peer 0 c).val] := k0_off5_eq c 0
theorem off5_1 (c : Dev nD) : k0_off5 c 2#32 = ![(peer 1 c).val] := k0_off5_eq c 1
theorem off5_2 (c : Dev nD) : k0_off5 c 3#32 = ![(peer 2 c).val] := k0_off5_eq c 2
theorem off6_0 (c : Dev nD) : k0_off6 c 1#32 = ![(peer 0 c).val, 0, 0] := k0_off6_eq c 0
theorem off6_1 (c : Dev nD) : k0_off6 c 2#32 = ![(peer 1 c).val, 0, 0] := k0_off6_eq c 1
theorem off6_2 (c : Dev nD) : k0_off6 c 3#32 = ![(peer 2 c).val, 0, 0] := k0_off6_eq c 2
theorem off7_own (c : Dev nD) : k0_off7 c = ![64 * c.val, 0] := k0_off7_eq c
theorem off8_0 (c : Dev nD) : k0_off8 c 1#32 = ![64 * (peer 0 c).val, 0] := k0_off8_eq c 0
theorem off8_1 (c : Dev nD) : k0_off8 c 2#32 = ![64 * (peer 1 c).val, 0] := k0_off8_eq c 1
theorem off8_2 (c : Dev nD) : k0_off8 c 3#32 = ![64 * (peer 2 c).val, 0] := k0_off8_eq c 2

/-! What the body's loads of whole buffers read, and its stores over whole buffers leave. -/
theorem read_x (f : Vec F S256x128 .bf16) : (Memref.whole cc0_stg0_0 : Memref sig .tc .vmem S256x128 .bf16).view.readAt (Elt F)
    (Rect.unit (s := S256x128) ![0, 0] S256x128.size inb_S256x128_S256x128_0_0).toLoadRect f = f := Memref.readAt_unit_zero (Elt F) cc0_stg0_0 hz2 _ f
theorem read_router (f : Vec F S128x8 .bf16) : (Memref.whole cc0_stg1_0 : Memref sig .tc .vmem S128x8 .bf16).view.readAt (Elt F)
    (Rect.unit (s := S128x8) ![0, 0] S128x8.size inb_S128x8_S128x8_0_0).toLoadRect f = f := Memref.readAt_unit_zero (Elt F) cc0_stg1_0 hz2 _ f
theorem read_w (f : Vec F S2x128x256 .bf16) : (Memref.whole cc0_stg3_0 : Memref sig .tc .vmem S2x128x256 .bf16).view.readAt (Elt F)
    (Rect.unit (s := S2x128x256) ![0, 0, 0] S2x128x256.size inb_S2x128x256_S2x128x256_0_0_0).toLoadRect f = f := Memref.readAt_unit_zero (Elt F) cc0_stg3_0 hz3 _ f
theorem read_first (c : Dev nD) : (Memref.whole cc0_stg2_0 : Memref sig .tc .vmem S256x2 .i32).view.readAt (Elt F) col0.toLoadRect (B.ids c) = firstIds B c := rfl
theorem read_second (c : Dev nD) : (Memref.whole cc0_stg2_0 : Memref sig .tc .vmem S256x2 .i32).view.readAt (Elt F) col1.toLoadRect (B.ids c) = secondIds B c := rfl
theorem write_acc (f w : Vec F S4x64x256 .f32) : ((Memref.whole cc0_scratch0 : Memref sig .tc .vmem S4x64x256 .f32).access
    (Rect.unit (s := S4x64x256) ![0, 0, 0] S4x64x256.size inb_S4x64x256_S4x64x256_0_0_0) : View sig .tc _ _ _).write (Elt F) f w Finset.univ = w :=
  Memref.write_access_unit_zero_univ (Elt F) cc0_scratch0 hz3 _ f w
theorem write_out (f w : Vec F S4x64x256 .bf16) : ((Memref.whole cc0_scratch1 : Memref sig .tc .vmem S4x64x256 .bf16).access
    (Rect.unit (s := S4x64x256) ![0, 0, 0] S4x64x256.size inb_S4x64x256_S4x64x256_0_0_0) : View sig .tc _ _ _).write (Elt F) f w Finset.univ = w :=
  Memref.write_access_unit_zero_univ (Elt F) cc0_scratch1 hz3 _ f w

/-- The signals, and the loads of tokens and router. -/
theorem part1 {Q : (Σ' (d0 : Dev nD) (v2 : BitVec 32) (v4 : BitVec 32) (v6 : BitVec 32) (v8 : BitVec 32) (v9 : Sems sig S_) (v17 : FVec F S256x128 .bf16) (v29 : FVec F S256x8 .f32), IVec S256x8 32) → sProp 𝕄}
    (c : Dev nD) (W : Waits sig Unit) :
    iprop(records B K ∗ owes (c : Thread nD τ) (owed c 0) W
        ∗ dutyTok ER (cell (peer 0 c) bar) 0 c ∗ dutyTok ER (cell (peer 1 c) bar) 0 c ∗ dutyTok ER (cell (peer 2 c) bar) 0 c
        ∗ room (peer 0 c) c ∗ room (peer 1 c) c ∗ room (peer 2 c) c
        ∗ whole c cc0_stg0_0 (B.x c) ∗ whole c cc0_stg1_0 (B.router c))
      ⊢ iprop((owes (c : Thread nD τ) (owed c 3) W ∗ whole c cc0_stg0_0 (B.x c) ∗ whole c cc0_stg1_0 (B.router c)
            -∗ Q ⟨c, meWord c, Scalar.remsi (Scalar.addi (meWord c) 1#32) 4#32, Scalar.remsi (Scalar.addi (meWord c) 2#32) 4#32,
              Scalar.remsi (Scalar.addi (meWord c) 3#32) 4#32, SemArray.scalar (sig.barrier 0 rfl), k0_pay1 (B.x c), probs B c, colIota⟩)
          -∗ runs c (k0_part1 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          cc0_scratch4 cc0_scratch5 cc0_scratch6 cc0_scratch7) Q) := by
  rw [k0_part1_eq_skeleton]; unfold k0_part1_skel
  simp only [semSignalWord, Prog.lift, Prog.bind_op, Prog.bind_ret, Prog.pure_eq_ret, wp_deviceId]
  iintro ⟨#HR, HO, Ht0, Ht1, Ht2, Hr0, Hr1, Hr2, Hx, Hw⟩ Hk
  iapply (signal_step B K c _ 0 (dev1_eq c) (u := 1) rfl ((dues c).drop 1) W) $$ [HO Ht0 Hr0]
  · isplitr; · iexact HR
    isplitl [HO]; · iexact HO
    isplitl [Ht0] <;> iassumption
  iintro HO
  iapply (signal_step B K c _ 1 (dev2_eq c) (u := 1) rfl ((dues c).drop 2) W) $$ [HO Ht1 Hr1]
  · isplitr; · iexact HR
    isplitl [HO]; · iexact HO
    isplitl [Ht1] <;> iassumption
  iintro HO
  iapply (signal_step B K c _ 2 (dev3_eq c) (u := 1) rfl ((dues c).drop 3) W) $$ [HO Ht2 Hr2]
  · isplitr; · iexact HR
    isplitl [HO]; · iexact HO
    isplitl [Ht2] <;> iassumption
  iintro HO
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hw; iintro Hw
  rw [read_router, wp_ret]; imodintro
  unfold probs meWord
  iapply Hk
  isplitl [HO]; · iexact HO
  isplitl [Hx] <;> iassumption

/-- The loads of the expert numbers. -/
theorem part2 {Q : (Σ' (v64 : FVec F S256x128 .bf16), FVec F S256x1 .f32) → sProp 𝕄} (c : Dev nD) :
    (whole c cc0_stg2_0 (B.ids c) : sProp 𝕄)
      ⊢ iprop((whole c cc0_stg2_0 (B.ids c) -∗ Q ⟨gatedX B c, gate1 B c⟩)
          -∗ runs c (k0_part2 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          cc0_scratch4 cc0_scratch5 cc0_scratch6 cc0_scratch7 (meWord c) (k0_pay1 (B.x c)) (probs B c) colIota) Q) := by
  rw [k0_part2_eq_skeleton]; unfold k0_part2_skel
  simp only [Prog.lift, Prog.bind_op, Prog.bind_ret, Prog.pure_eq_ret]
  iintro Hi Hk
  iapply (wp_load 𝒱₀ (c : Thread nD τ) none Set.univ (m := Memref.whole cc0_stg2_0) (Finset.subset_univ _)) $$ Hi; iintro Hi
  rw [read_first]
  iapply (wp_load 𝒱₀ (c : Thread nD τ) none Set.univ (m := Memref.whole cc0_stg2_0) (Finset.subset_univ _)) $$ Hi; iintro Hi
  rw [read_second, wp_ret]; imodintro
  unfold gatedX gate1
  iapply Hk; iexact Hi

/-- The product, kept and rounded for sending; the barrier; the first transfer out, to the device two places on. -/
theorem part3 {Q : PUnit → sProp 𝕄} (c : Dev nD) (W : Waits sig Unit) (v4 v6 : BitVec 32) (f1 : Vec F S4x64x256 .f32) (f2 : Vec F S4x64x256 .bf16) :
    iprop(records B K ∗ cred (tallyAt (cell c bar) () 3) ∗ owes (c : Thread nD τ) (owed c 3) W ∗ levAts L lv ∗ before c bar
        ∗ whole c cc0_stg3_0 (B.w c) ∗ whole c cc0_scratch0 f1 ∗ whole c cc0_scratch1 f2
        ∗ dutyTok ER (cell c (rsS 1)) 0 0 ∗ dutyTok ER (cell (peer 1 c) (rsR c)) 0 0)
      ⊢ iprop(((∃ W', owes (c : Thread nD τ) (owed c 4) W') ∗ closed c bar ∗ whole c cc0_stg3_0 (B.w c) ∗ whole c cc0_scratch0 (share32 B c)
            ∗ outSlot c c (share16 B c) ∗ outSlot c (peer 0 c) (share16 B c) ∗ outSlot c (peer 2 c) (share16 B c)
            ∗ (∃ f, inSlotPts (peer 0 c) c f) ∗ (∃ f, inSlotPts (peer 2 c) c f)
            ∗ (∃ f, agSlot fullShare (peer 0 c) c f) ∗ (∃ f, agSlot fullShare (peer 1 c) c f) ∗ (∃ f, agSlot fullShare (peer 2 c) c f)
            ∗ cred (tallyAt (cell c (rsS 1)) () N) -∗ Q ⟨⟩)
          -∗ runs c (k0_part3 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          cc0_scratch4 cc0_scratch5 cc0_scratch6 cc0_scratch7 c v4 v6 (SemArray.scalar (sig.barrier 0 rfl)) (k0_pay1 (B.x c)) (gatedX B c) (gate1 B c)) Q) := by
  rw [k0_part3_eq_skeleton]; unfold k0_part3_skel
  simp only [semWaitWord, Prog.lift, Prog.bind_op, Prog.bind_ret, Prog.pure_eq_ret]
  iintro ⟨#HR, Hc, HO, #Hlev, Hat, Hw, H0, H1, HtS, HtR⟩ Hk
  iapply (wp_load 𝒱₀ (c : Thread nD τ) none Set.univ (m := Memref.whole cc0_stg3_0) (Finset.subset_univ _)) $$ Hw; iintro Hw
  rw [read_w]
  iapply (wp_load 𝒱₀ (c : Thread nD τ) none Set.univ (m := Memref.whole cc0_scratch0) (Finset.subset_univ _)) $$ H0; iintro H0
  iapply (wp_store 𝒱₀ (c : Thread nD τ) none Set.univ (m := Memref.whole cc0_scratch0)
      (r := Rect.unit (s := S4x64x256) ![0, 0, 0] S4x64x256.size inb_S4x64x256_S4x64x256_0_0_0) (Mk := Finset.univ) (Finset.subset_univ _)) $$ H0; iintro H0
  iapply (wp_load 𝒱₀ (c : Thread nD τ) none Set.univ (m := Memref.whole cc0_scratch1) (Finset.subset_univ _)) $$ H1; iintro H1
  iapply (wp_store 𝒱₀ (c : Thread nD τ) none Set.univ (m := Memref.whole cc0_scratch1)
      (r := Rect.unit (s := S4x64x256) ![0, 0, 0] S4x64x256.size inb_S4x64x256_S4x64x256_0_0_0) (Mk := Finset.univ) (Finset.subset_univ _)) $$ H1; iintro H1
  rw [write_acc, write_out]
  iapply (barrier_step B K c (u := 3) rfl W) $$ [Hc HO Hat]
  · isplitr; · iexact HR
    isplitl [Hc]; · iexact Hc
    isplitl [HO]; · iexact HO
    isplitr; · iexact Hlev
    iexact Hat
  unfold room
  iintro ⟨⟨%W1, HO⟩, Hbar, ⟨⟨%g0, Hi0⟩, Ha0⟩, ⟨⟨%g1, Hi1⟩, Ha1⟩, ⟨⟨%g2, Hi2⟩, Ha2⟩⟩
  ihave H1 := (show (whole c cc0_scratch1 (k0_pay14 (k0_pay1 (B.x c)) (gatedX B c) (gate1 B c) (B.w c)) : sProp 𝕄) ⊢ _ from out_slots c (share16 B c)) $$ H1
  icases H1 with ⟨Hoc, Ho0, Ho1, Ho2⟩
  iapply (scatter_step B K c _ 1 (dev4_eq c) (off3_1 c) (off2_own c) (sem_rsS 1 _) (sem_rsR c (k0_off1_eq c) _) ((dues c).drop 4) W1 g1) $$ [Ho1 Hi1 HO HtS HtR]
  · isplitr; · iexact HR
    isplitl [Ho1]; · iexact Ho1
    isplitl [Hi1]; · iexact Hi1
    isplitl [HO]; · iexact HO
    isplitl [HtS] <;> iassumption
  iintro ⟨HcS, HO⟩
  iapply (finish c)
  iapply Hk
  isplitl [HO]; · iexists _; iexact HO
  isplitl [Hbar]; · iexact Hbar
  isplitl [Hw]; · iexact Hw
  isplitl [H0]; · unfold share32; iexact H0
  isplitl [Hoc]; · iexact Hoc
  isplitl [Ho0]; · iexact Ho0
  isplitl [Ho2]; · iexact Ho2
  isplitl [Hi0]; · iexists _; iexact Hi0
  isplitl [Hi2]; · iexists _; iexact Hi2
  isplitl [Ha0]; · iexact Ha0
  isplitl [Ha1]; · iexact Ha1
  isplitl [Ha2]; · iexact Ha2
  iexact HcS

end Cert.Exchange
-- ==== Proof.Second.lean ====
/-
# `Second`: the middle of the body

The other two transfers out, the three blocks in and their sum, the finished block kept, stored and handed on.
-/
module

public import proofs.«01_k».proof.Proof.First

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cel

variable {F : FTy → Type} [FloatOps F]

local notation "𝕄" => MT nD τ sig Unit (Elt F) ℕ UU ℕ
local notation "Code" => Prog (TpuEff nD τ sig (Elt F) Λ₀ Proc.tc)

variable (B : Inputs F) (K : Dev nD × Cel → ℕ)

/-- Slot `p` of the receive buffer as it is loaded: device `p`'s share. -/
theorem in_part (c p : Dev nD) : (fun x : S1x64x256.Idx => inbox B c (inSlot p (rowCol1 x))) = part B c p := rfl

/-- The transfers to the devices one and three places on; the device's own share, and the block from one place on. -/
theorem part4 {Q : FVec F S64x256 .f32 → sProp 𝕄} (c : Dev nD) (W : Waits sig Unit) (v2 v4 v8 : BitVec 32) :
    iprop(records B K ∗ owes (c : Thread nD τ) (owed c 4) W ∗ levAts L lv
        ∗ outSlot c (peer 0 c) (share16 B c) ∗ (∃ f, inSlotPts (peer 0 c) c f) ∗ dutyTok ER (cell c (rsS 0)) 0 0 ∗ dutyTok ER (cell (peer 0 c) (rsR c)) 0 0
        ∗ outSlot c (peer 2 c) (share16 B c) ∗ (∃ f, inSlotPts (peer 2 c) c f) ∗ dutyTok ER (cell c (rsS 2)) 0 0 ∗ dutyTok ER (cell (peer 2 c) (rsR c)) 0 0
        ∗ whole c cc0_scratch0 (share32 B c) ∗ cred (tallyAt (cell c (rsR (peer 0 c))) () N) ∗ before c (rsR (peer 0 c)))
      ⊢ iprop(((∃ W', owes (c : Thread nD τ) (owed c 6) W') ∗ cred (tallyAt (cell c (rsS 0)) () N) ∗ cred (tallyAt (cell c (rsS 2)) () N)
            ∗ whole c cc0_scratch0 (share32 B c) ∗ closed c (rsR (peer 0 c)) ∗ inSlotPts c (peer 0 c) (inbox B c) -∗ Q (twoParts B c))
          -∗ runs c (k0_part4 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          cc0_scratch4 cc0_scratch5 cc0_scratch6 cc0_scratch7 c v2 v4 v8) Q) := by
  rw [k0_part4_eq_skeleton]; unfold k0_part4_skel
  simp only [Prog.lift, Prog.bind_op, Prog.bind_ret, Prog.pure_eq_ret]
  iintro ⟨#HR, HO, #Hlev, Ho0, ⟨%g0, Hi0⟩, HtS0, HtR0, Ho2, ⟨%g2, Hi2⟩, HtS2, HtR2, Hacc, Hc, Hat⟩ Hk
  iapply (scatter_step B K c _ 0 (dev5_eq c) (off3_0 c) (off2_own c) (sem_rsS 0 _) (sem_rsR c (k0_off1_eq c) _) ((dues c).drop 5) W g0) $$ [Ho0 Hi0 HO HtS0 HtR0]
  · isplitr; · iexact HR
    isplitl [Ho0]; · iexact Ho0
    isplitl [Hi0]; · iexact Hi0
    isplitl [HO]; · iexact HO
    isplitl [HtS0] <;> iassumption
  iintro ⟨HcS0, HO⟩
  iapply (scatter_step B K c _ 2 (dev6_eq c) (off3_2 c) (off2_own c) (sem_rsS 2 _) (sem_rsR c (k0_off1_eq c) _) ((dues c).drop 6) W g2) $$ [Ho2 Hi2 HO HtS2 HtR2]
  · isplitr; · iexact HR
    isplitl [Ho2]; · iexact Ho2
    isplitl [Hi2]; · iexact Hi2
    isplitl [HO]; · iexact HO
    isplitl [HtS2] <;> iassumption
  iintro ⟨HcS2, HO⟩
  iapply (load_acc c (off4_own c) (share32 B c)) $$ Hacc; iintro Hacc
  iapply (wait_step B K c (rsR (peer 0 c)) (dutiesOf_rsR (peer_ne 0 c)) rfl (sem_rsR (peer 0 c) (off5_0 c) _) (credit_in _) ((dues c).drop 6) (dues_levels6 c) W) $$ [Hc HO Hat]
  · isplitr; · iexact HR
    isplitl [Hc]; · iexact Hc
    isplitl [HO]; · iexact HO
    isplitr; · iexact Hlev
    iexact Hat
  iintro ⟨⟨%W1, HO⟩, Hz, Hin⟩
  ihave Hin := (show payOf B c (rsR (peer 0 c)) 0 ⊢ inSlotPts c (peer 0 c) (inbox B c) from Entails.refl _) $$ Hin
  iapply (load_in c (off6_0 c) (inbox B c)) $$ Hin; iintro Hin
  iapply (finish c)
  iapply (show Q (twoParts B c) ⊢ Q (k0_pay15 (fun x => share32 B c (inSlot c (rowCol1 x))) fun x => inbox B c (inSlot (peer 0 c) (rowCol1 x))) from Entails.refl _)
  iapply Hk
  isplitl [HO]; · iexists _; iexact HO
  isplitl [HcS0]; · iexact HcS0
  isplitl [HcS2]; · iexact HcS2
  isplitl [Hacc]; · iexact Hacc
  isplitl [Hz] <;> iassumption

/-- The blocks from three and two places on; the finished block into the gather buffer and the result. -/
theorem part5 {Q : PUnit → sProp 𝕄} (c : Dev nD) (W : Waits sig Unit) (v2 v6 v8 : BitVec 32) (f3 : Vec F S4x64x256 .bf16) (f4 : Vec F S256x256 .f32) :
    iprop(records B K ∗ owes (c : Thread nD τ) (owed c 6) W ∗ levAts L lv
        ∗ cred (tallyAt (cell c (rsR (peer 2 c))) () N) ∗ before c (rsR (peer 2 c)) ∗ cred (tallyAt (cell c (rsR (peer 1 c))) () N) ∗ before c (rsR (peer 1 c))
        ∗ agSlot fullShare c c f3 ∗ whole c cc0_stg4_0 f4)
      ⊢ iprop(((∃ W', owes (c : Thread nD τ) (owed c 6) W') ∗ closed c (rsR (peer 2 c)) ∗ inSlotPts c (peer 2 c) (inbox B c)
            ∗ closed c (rsR (peer 1 c)) ∗ inSlotPts c (peer 1 c) (inbox B c)
            ∗ agSlot fullShare c c (gathered B) ∗ whole c cc0_stg4_0 (putBlock c (summed B c) f4) -∗ Q ⟨⟩)
          -∗ runs c (k0_part5 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          cc0_scratch4 cc0_scratch5 cc0_scratch6 cc0_scratch7 c v2 v6 v8 (twoParts B c)) Q) := by
  rw [k0_part5_eq_skeleton]; unfold k0_part5_skel
  simp only [Prog.lift, Prog.bind_op, Prog.bind_ret, Prog.pure_eq_ret]
  iintro ⟨#HR, HO, #Hlev, Hc2, Hat2, Hc1, Hat1, Hag, Hout⟩ Hk
  iapply (wait_step B K c (rsR (peer 2 c)) (dutiesOf_rsR (peer_ne 2 c)) rfl (sem_rsR (peer 2 c) (off5_2 c) _) (credit_in _) ((dues c).drop 6) (dues_levels6 c) W) $$ [Hc2 HO Hat2]
  · isplitr; · iexact HR
    isplitl [Hc2]; · iexact Hc2
    isplitl [HO]; · iexact HO
    isplitr; · iexact Hlev
    iexact Hat2
  iintro ⟨⟨%W2, HO⟩, Hz2, Hin2⟩
  ihave Hin2 := (show payOf B c (rsR (peer 2 c)) 0 ⊢ inSlotPts c (peer 2 c) (inbox B c) from Entails.refl _) $$ Hin2
  iapply (load_in c (off6_2 c) (inbox B c)) $$ Hin2; iintro Hin2
  iapply (wait_step B K c (rsR (peer 1 c)) (dutiesOf_rsR (peer_ne 1 c)) rfl (sem_rsR (peer 1 c) (off5_1 c) _) (credit_in _) ((dues c).drop 6) (dues_levels6 c) W2) $$ [Hc1 HO Hat1]
  · isplitr; · iexact HR
    isplitl [Hc1]; · iexact Hc1
    isplitl [HO]; · iexact HO
    isplitr; · iexact Hlev
    iexact Hat1
  iintro ⟨⟨%W1, HO⟩, Hz1, Hin1⟩
  ihave Hin1 := (show payOf B c (rsR (peer 1 c)) 0 ⊢ inSlotPts c (peer 1 c) (inbox B c) from Entails.refl _) $$ Hin1
  iapply (load_in c (off6_1 c) (inbox B c)) $$ Hin1; iintro Hin1
  iapply (load_ag c (off4_own c) f3) $$ Hag; iintro Hag
  iapply (store_ag B c (off4_own c) f3) $$ Hag; iintro Hag
  iapply (load_rows c (fun _ => rfl) f4) $$ Hout; iintro Hout
  iapply (store_rows c (off7_own c) (w := summed B c) f4) $$ Hout; iintro Hout
  iapply (finish c)
  iapply Hk
  isplitl [HO]; · iexists _; iexact HO
  isplitl [Hz2]; · iexact Hz2
  isplitl [Hin2]; · iexact Hin2
  isplitl [Hz1]; · iexact Hz1
  isplitl [Hin1]; · iexact Hin1
  isplitl [Hag] <;> iassumption

/-- The finished block handed to the other three devices. -/
theorem part6 {Q : PUnit → sProp 𝕄} (c : Dev nD) (W : Waits sig Unit) (v4 v8 : BitVec 32) :
    iprop(records B K ∗ owes (c : Thread nD τ) (owed c 6) W
        ∗ agSlot (lent 0) c c (gathered B) ∗ agSlot (lent 1) c c (gathered B) ∗ agSlot (lent 2) c c (gathered B)
        ∗ (∃ f, agSlot fullShare (peer 0 c) c f) ∗ (∃ f, agSlot fullShare (peer 1 c) c f) ∗ (∃ f, agSlot fullShare (peer 2 c) c f)
        ∗ dutyTok ER (cell c (agS 0)) 0 0 ∗ dutyTok ER (cell (peer 0 c) (agR c)) 0 0
        ∗ dutyTok ER (cell c (agS 1)) 0 0 ∗ dutyTok ER (cell (peer 1 c) (agR c)) 0 0
        ∗ dutyTok ER (cell c (agS 2)) 0 0 ∗ dutyTok ER (cell (peer 2 c) (agR c)) 0 0)
      ⊢ iprop((owes (c : Thread nD τ) (owed c 9) W ∗ cred (tallyAt (cell c (agS 0)) () N) ∗ cred (tallyAt (cell c (agS 1)) () N) ∗ cred (tallyAt (cell c (agS 2)) () N) -∗ Q ⟨⟩)
          -∗ runs c (k0_part6 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          cc0_scratch4 cc0_scratch5 cc0_scratch6 cc0_scratch7 c v4 v8) Q) := by
  rw [k0_part6_eq_skeleton]; unfold k0_part6_skel
  simp only [Prog.lift, Prog.bind_op, Prog.bind_ret, Prog.pure_eq_ret]
  iintro ⟨#HR, HO, Hl0, Hl1, Hl2, ⟨%g0, Ha0⟩, ⟨%g1, Ha1⟩, ⟨%g2, Ha2⟩, HtS0, HtR0, HtS1, HtR1, HtS2, HtR2⟩ Hk
  iapply (gather_step B K c _ 1 (dev7_eq c) (off2_own c) (off2_own c) (sem_agS 1 _) (sem_agR c (k0_off1_eq c) _) ((dues c).drop 7) W g1) $$ [Hl1 Ha1 HO HtS1 HtR1]
  · isplitr; · iexact HR
    isplitl [Hl1]; · iexact Hl1
    isplitl [Ha1]; · iexact Ha1
    isplitl [HO]; · iexact HO
    isplitl [HtS1] <;> iassumption
  iintro ⟨HcS1, HO⟩
  iapply (gather_step B K c _ 0 (dev8_eq c) (off2_own c) (off2_own c) (sem_agS 0 _) (sem_agR c (k0_off1_eq c) _) ((dues c).drop 8) W g0) $$ [Hl0 Ha0 HO HtS0 HtR0]
  · isplitr; · iexact HR
    isplitl [Hl0]; · iexact Hl0
    isplitl [Ha0]; · iexact Ha0
    isplitl [HO]; · iexact HO
    isplitl [HtS0] <;> iassumption
  iintro ⟨HcS0, HO⟩
  iapply (gather_step B K c _ 2 (dev9_eq c) (off2_own c) (off2_own c) (sem_agS 2 _) (sem_agR c (k0_off1_eq c) _) ((dues c).drop 9) W g2) $$ [Hl2 Ha2 HO HtS2 HtR2]
  · isplitr; · iexact HR
    isplitl [Hl2]; · iexact Hl2
    isplitl [Ha2]; · iexact Ha2
    isplitl [HO]; · iexact HO
    isplitl [HtS2] <;> iassumption
  iintro ⟨HcS2, HO⟩
  iapply (finish c)
  iapply Hk
  isplitl [HO]; · iexact HO
  isplitl [HcS0]; · iexact HcS0
  isplitl [HcS1] <;> iassumption

/-- The blocks from one and three places on into the result, and the block from two places on received. -/
theorem part7 {Q : PUnit → sProp 𝕄} (c : Dev nD) (W : Waits sig Unit) (v4 v6 v8 : BitVec 32) (f4 : Vec F S256x256 .f32) :
    iprop(records B K ∗ owes (c : Thread nD τ) (owed c 9) W ∗ levAts L lv
        ∗ cred (tallyAt (cell c (agR (peer 0 c))) () N) ∗ before c (agR (peer 0 c)) ∗ cred (tallyAt (cell c (agR (peer 2 c))) () N) ∗ before c (agR (peer 2 c))
        ∗ cred (tallyAt (cell c (agR (peer 1 c))) () N) ∗ before c (agR (peer 1 c)) ∗ whole c cc0_stg4_0 f4)
      ⊢ iprop(((∃ W', owes (c : Thread nD τ) (owed c 9) W') ∗ closed c (agR (peer 0 c)) ∗ closed c (agR (peer 1 c)) ∗ closed c (agR (peer 2 c))
            ∗ agSlot fullShare c (peer 0 c) (gathered B) ∗ agSlot fullShare c (peer 1 c) (gathered B) ∗ agSlot fullShare c (peer 2 c) (gathered B)
            ∗ whole c cc0_stg4_0 (putBlock (peer 2 c) (k0_pay19 fun x => gathered B (inSlot (peer 2 c) (rowCol1 x)))
                (putBlock (peer 0 c) (k0_pay18 fun x => gathered B (inSlot (peer 0 c) (rowCol1 x))) f4)) -∗ Q ⟨⟩)
          -∗ runs c (k0_part7 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          cc0_scratch4 cc0_scratch5 cc0_scratch6 cc0_scratch7 c v4 v6 v8) Q) := by
  rw [k0_part7_eq_skeleton]; unfold k0_part7_skel
  simp only [Prog.lift, Prog.bind_op, Prog.bind_ret, Prog.pure_eq_ret]
  iintro ⟨#HR, HO, #Hlev, Hc0, Hat0, Hc2, Hat2, Hc1, Hat1, Hout⟩ Hk
  iapply (wait_step B K c (agR (peer 0 c)) (dutiesOf_agR (peer_ne 0 c)) rfl (sem_agR (peer 0 c) (off5_0 c) _) (credit_ag _) ((dues c).drop 9) (fun x h => absurd h List.not_mem_nil) W) $$ [Hc0 HO Hat0]
  · isplitr; · iexact HR
    isplitl [Hc0]; · iexact Hc0
    isplitl [HO]; · iexact HO
    isplitr; · iexact Hlev
    iexact Hat0
  iintro ⟨⟨%W0, HO⟩, Hz0, Hg0⟩
  ihave Hg0 := (show payOf B c (agR (peer 0 c)) 0 ⊢ agSlot fullShare c (peer 0 c) (gathered B) from Entails.refl _) $$ Hg0
  iapply (load_ag c (off6_0 c) (gathered B)) $$ Hg0; iintro Hg0
  iapply (load_rows c (fun _ => rfl) f4) $$ Hout; iintro Hout
  iapply (store_rows c (off8_0 c) f4) $$ Hout; iintro Hout
  iapply (wait_step B K c (agR (peer 2 c)) (dutiesOf_agR (peer_ne 2 c)) rfl (sem_agR (peer 2 c) (off5_2 c) _) (credit_ag _) ((dues c).drop 9) (fun x h => absurd h List.not_mem_nil) W0) $$ [Hc2 HO Hat2]
  · isplitr; · iexact HR
    isplitl [Hc2]; · iexact Hc2
    isplitl [HO]; · iexact HO
    isplitr; · iexact Hlev
    iexact Hat2
  iintro ⟨⟨%W2, HO⟩, Hz2, Hg2⟩
  ihave Hg2 := (show payOf B c (agR (peer 2 c)) 0 ⊢ agSlot fullShare c (peer 2 c) (gathered B) from Entails.refl _) $$ Hg2
  iapply (load_ag c (off6_2 c) (gathered B)) $$ Hg2; iintro Hg2
  iapply (load_rows c (fun _ => rfl) _) $$ Hout; iintro Hout
  iapply (store_rows c (off8_2 c) _) $$ Hout; iintro Hout
  iapply (wait_step B K c (agR (peer 1 c)) (dutiesOf_agR (peer_ne 1 c)) rfl (sem_agR (peer 1 c) (off5_1 c) _) (credit_ag _) ((dues c).drop 9) (fun x h => absurd h List.not_mem_nil) W2) $$ [Hc1 HO Hat1]
  · isplitr; · iexact HR
    isplitl [Hc1]; · iexact Hc1
    isplitl [HO]; · iexact HO
    isplitr; · iexact Hlev
    iexact Hat1
  iintro ⟨⟨%W1, HO⟩, Hz1, Hg1⟩
  ihave Hg1 := (show payOf B c (agR (peer 1 c)) 0 ⊢ agSlot fullShare c (peer 1 c) (gathered B) from Entails.refl _) $$ Hg1
  iapply (finish c)
  iapply Hk
  isplitl [HO]; · iexists _; iexact HO
  isplitl [Hz0]; · iexact Hz0
  isplitl [Hz1]; · iexact Hz1
  isplitl [Hz2]; · iexact Hz2
  isplitl [Hg0]; · iexact Hg0
  isplitl [Hg1]; · iexact Hg1
  isplitl [Hg2]; · iexact Hg2
  iexact Hout

/-- The last block into the result; the first exchange's sends waited for. -/
theorem part8 {Q : PUnit → sProp 𝕄} (c : Dev nD) (W : Waits sig Unit) (v6 : BitVec 32) (f4 : Vec F S256x256 .f32) :
    iprop(records B K ∗ owes (c : Thread nD τ) (owed c 9) W ∗ levAts L lv ∗ agSlot fullShare c (peer 1 c) (gathered B) ∗ whole c cc0_stg4_0 f4
        ∗ cred (tallyAt (cell c (rsS 1)) () N) ∗ before c (rsS 1) ∗ cred (tallyAt (cell c (rsS 0)) () N) ∗ before c (rsS 0)
        ∗ cred (tallyAt (cell c (rsS 2)) () N) ∗ before c (rsS 2))
      ⊢ iprop(((∃ W', owes (c : Thread nD τ) (owed c 9) W') ∗ agSlot fullShare c (peer 1 c) (gathered B)
            ∗ whole c cc0_stg4_0 (putBlock (peer 1 c) (k0_pay20 fun x => gathered B (inSlot (peer 1 c) (rowCol1 x))) f4)
            ∗ closed c (rsS 0) ∗ closed c (rsS 1) ∗ closed c (rsS 2)
            ∗ outSlot c (peer 0 c) (share16 B c) ∗ outSlot c (peer 1 c) (share16 B c) ∗ outSlot c (peer 2 c) (share16 B c) -∗ Q ⟨⟩)
          -∗ runs c (k0_part8 (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          cc0_scratch4 cc0_scratch5 cc0_scratch6 cc0_scratch7 c v6) Q) := by
  rw [k0_part8_eq_skeleton]; unfold k0_part8_skel
  simp only [Prog.lift, Prog.bind_op, Prog.bind_ret, Prog.pure_eq_ret]
  iintro ⟨#HR, HO, #Hlev, Hg1, Hout, Hc1, Hat1, Hc0, Hat0, Hc2, Hat2⟩ Hk
  iapply (load_ag c (off6_1 c) (gathered B)) $$ Hg1; iintro Hg1
  iapply (load_rows c (fun _ => rfl) f4) $$ Hout; iintro Hout
  iapply (store_rows c (off8_1 c) f4) $$ Hout; iintro Hout
  iapply (wait_step B K c (rsS 1) rfl rfl (sem_rsS 1 _) (credit_out _) ((dues c).drop 9) (fun x h => absurd h List.not_mem_nil) W) $$ [Hc1 HO Hat1]
  · isplitr; · iexact HR
    isplitl [Hc1]; · iexact Hc1
    isplitl [HO]; · iexact HO
    isplitr; · iexact Hlev
    iexact Hat1
  iintro ⟨⟨%W1, HO⟩, Hz1, Ho1⟩
  iapply (wait_step B K c (rsS 0) rfl rfl (sem_rsS 0 _) (credit_out _) ((dues c).drop 9) (fun x h => absurd h List.not_mem_nil) W1) $$ [Hc0 HO Hat0]
  · isplitr; · iexact HR
    isplitl [Hc0]; · iexact Hc0
    isplitl [HO]; · iexact HO
    isplitr; · iexact Hlev
    iexact Hat0
  iintro ⟨⟨%W0, HO⟩, Hz0, Ho0⟩
  iapply (wait_step B K c (rsS 2) rfl rfl (sem_rsS 2 _) (credit_out _) ((dues c).drop 9) (fun x h => absurd h List.not_mem_nil) W0) $$ [Hc2 HO Hat2]
  · isplitr; · iexact HR
    isplitl [Hc2]; · iexact Hc2
    isplitl [HO]; · iexact HO
    isplitr; · iexact Hlev
    iexact Hat2
  iintro ⟨⟨%W2, HO⟩, Hz2, Ho2⟩
  iapply (finish c)
  iapply Hk
  isplitl [HO]; · iexists _; iexact HO
  isplitl [Hg1]; · iexact Hg1
  isplitl [Hout]; · iexact Hout
  isplitl [Hz0]; · iexact Hz0
  isplitl [Hz1]; · iexact Hz1
  isplitl [Hz2]; · iexact Hz2
  isplitl [Ho0]; · iapply (show payOf B c (rsS 0) 0 ⊢ outSlot c (peer 0 c) (share16 B c) from Entails.refl _); iexact Ho0
  isplitl [Ho1]; · iapply (show payOf B c (rsS 1) 0 ⊢ outSlot c (peer 1 c) (share16 B c) from Entails.refl _); iexact Ho1
  iapply (show payOf B c (rsS 2) 0 ⊢ outSlot c (peer 2 c) (share16 B c) from Entails.refl _); iexact Ho2

end Cert.Exchange
-- ==== Proof.Third.lean ====
/-
# `Third`: the body as a whole

The eight parts one after another and the last three waits: from what the launch hands a device to the buffers whole
again, the result in place, nothing owed and every semaphore at zero.
-/
module

public import proofs.«01_k».proof.Proof.Second

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cel

variable {F : FTy → Type} [FloatOps F]

local notation "𝕄" => MT nD τ sig Unit (Elt F) ℕ UU ℕ
local notation "Code" => Prog (TpuEff nD τ sig (Elt F) Λ₀ Proc.tc)

variable (B : Inputs F) (K : Dev nD × Cel → ℕ)

/-! ## A device's fifteen semaphores, in the order of its neighbours -/

def celsOf (c : Dev nD) : List Cel :=
  [bar, rsS 0, rsS 1, rsS 2, agS 0, agS 1, agS 2, rsR c, rsR (peer 0 c), rsR (peer 1 c), rsR (peer 2 c), agR c, agR (peer 0 c), agR (peer 1 c), agR (peer 2 c)]

theorem celsOf_nodup (c : Dev nD) : (celsOf c).Nodup := by revert c; decide +kernel
theorem mem_celsOf (c : Dev nD) : ∀ j, j ∈ celsOf c := by revert c; decide +kernel

theorem cels_eq (c : Dev nD) (Φ : Cel → sProp 𝕄) :
    bigSep Finset.univ Φ = iprop(Φ bar ∗ Φ (rsS 0) ∗ Φ (rsS 1) ∗ Φ (rsS 2) ∗ Φ (agS 0) ∗ Φ (agS 1) ∗ Φ (agS 2)
      ∗ Φ (rsR c) ∗ Φ (rsR (peer 0 c)) ∗ Φ (rsR (peer 1 c)) ∗ Φ (rsR (peer 2 c))
      ∗ Φ (agR c) ∗ Φ (agR (peer 0 c)) ∗ Φ (agR (peer 1 c)) ∗ Φ (agR (peer 2 c))) :=
  bigSep_univ_eq_bigSepL (celsOf c) (Finset.ext fun j => ⟨fun _ => List.mem_toFinset.mpr (mem_celsOf c j), fun _ => Finset.mem_univ _⟩) (celsOf_nodup c) Φ

theorem places_eq (Φ : Fin 3 → sProp 𝕄) : bigSep Finset.univ Φ = iprop(Φ 0 ∗ Φ 1 ∗ Φ 2) :=
  bigSep_univ_eq_bigSepL [0, 1, 2] (by decide) (by decide) Φ

/-- The credit a device starts with: the three units of its barrier, the landings it awaits. -/
def credits (c : Dev nD) : sProp 𝕄 :=
  iprop(cred (tallyAt (cell c bar) () 3)
    ∗ (bigSep Finset.univ fun k : Fin 3 => cred (tallyAt (cell c (rsR (peer k c))) () N))
    ∗ bigSep Finset.univ fun k : Fin 3 => cred (tallyAt (cell c (agR (peer k c))) () N))

/-- What of the protocol a device starts with. -/
def ghost (c : Dev nD) : sProp 𝕄 :=
  iprop(records B K ∗ (bigSep Finset.univ fun j => before c j) ∗ bigSep Finset.univ fun k => rights c k)

/-- The four scratch buffers. -/
def scratch (c : Dev nD) : sProp 𝕄 :=
  iprop((∃ f, whole c cc0_scratch0 f) ∗ (∃ f, whole c cc0_scratch1 f) ∗ (∃ f, whole c cc0_scratch2 f) ∗ ∃ f, whole c cc0_scratch3 f)

/-- The four staged arguments. -/
def staged (c : Dev nD) : sProp 𝕄 :=
  iprop(whole c cc0_stg0_0 (B.x c) ∗ whole c cc0_stg1_0 (B.router c) ∗ whole c cc0_stg2_0 (B.ids c) ∗ whole c cc0_stg3_0 (B.w c))

/-- A semaphore of the exchange nobody is due to raise is at zero. -/
theorem unused (c : Dev nD) (j : Cel) (h : dutiesOf c j = ∅) : iprop(records B K ∗ before c j) ⊢ iprop(|={Set.univ}=> closed c j) := by
  iintro ⟨#HR, Hat⟩
  imod (Rounds.cell_close ER (sched B) (Set.mem_univ (K (c, j))) (fun h => h) (R := 0) (fun r _ => by
    rcases Nat.eq_zero_or_pos r with e | e
    · rw [e, duties_cell, h]
    · exact duties_later B (cell c j) r e)) $$ [Hat] with Hz
  · isplitr; · iapply (records_inv B K c j); iexact HR
    iexact Hat
  imodintro
  iexact Hz

set_option maxHeartbeats 1600000 in
/-- The body of device `c`. -/
theorem whole_body {Q : PUnit → sProp 𝕄} (c : Dev nD) (W : Waits sig Unit) (f4 : Vec F S256x256 .f32) :
    iprop(ghost B K c ∗ credits c ∗ levAts L lv ∗ scratch c ∗ owes (c : Thread nD τ) (owed c 0) W ∗ staged B c ∗ whole c cc0_stg4_0 f4)
      ⊢ iprop(((∃ W', owes (c : Thread nD τ) 0 W') ∗ (bigSep Finset.univ fun j => closed c j) ∗ scratch c ∗ staged B c ∗ whole c cc0_stg4_0 (result B c) -∗ Q ⟨⟩)
          -∗ runs c (cc0_body (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          cc0_scratch4 cc0_scratch5 cc0_scratch6 cc0_scratch7) Q) := by
  rw [cc0_body_eq_skeleton]; unfold cc0_body_skel ghost credits scratch staged rights runs
  simp only [cels_eq c, places_eq]
  iintro ⟨⟨#HR, ⟨Abar, AsS0, AsS1, AsS2, AaS0, AaS1, AaS2, AsRc, AsR0, AsR1, AsR2, AaRc, AaR0, AaR1, AaR2⟩,
      ⟨Tb0, TsR0, TaR0, TsS0, TaS0⟩, ⟨Tb1, TsR1, TaR1, TsS1, TaS1⟩, ⟨Tb2, TsR2, TaR2, TsS2, TaS2⟩⟩,
    ⟨Cb, ⟨CsR0, CsR1, CsR2⟩, CaR0, CaR1, CaR2⟩, #Hlev, ⟨⟨%f0, H0⟩, ⟨%f1, H1⟩, ⟨%f2, H2⟩, ⟨%f3, H3⟩⟩, HO, ⟨Hx, Hrt, Hids, Hw⟩, Hout⟩ Hk
  ihave H2 := (in_slots c f2) $$ H2
  icases H2 with ⟨Hic, Hi0, Hi1, Hi2⟩
  ihave H3 := (ag_slots c f3) $$ H3
  icases H3 with ⟨Hac, Ha0, Ha1, Ha2⟩
  rw [wp_bind]
  iapply (part1 B K c W) $$ [HO Tb0 Tb1 Tb2 Hi0 Ha0 Hi1 Ha1 Hi2 Ha2 Hx Hrt]
  · isplitr; · iexact HR
    isplitl [HO]; · iexact HO
    isplitl [Tb0]; · iexact Tb0
    isplitl [Tb1]; · iexact Tb1
    isplitl [Tb2]; · iexact Tb2
    unfold room
    isplitl [Hi0 Ha0]
    · isplitl [Hi0] <;> (iexists _; iassumption)
    isplitl [Hi1 Ha1]
    · isplitl [Hi1] <;> (iexists _; iassumption)
    isplitl [Hi2 Ha2]
    · isplitl [Hi2] <;> (iexists _; iassumption)
    isplitl [Hx] <;> iassumption
  iintro ⟨HO, Hx, Hrt⟩
  dsimp only
  rw [wp_bind]
  iapply (part2 B c) $$ Hids
  iintro Hids
  dsimp only
  rw [wp_bind]
  iapply (part3 B K c W _ _ f0 f1) $$ [Cb HO Abar Hw H0 H1 TsS1 TsR1]
  · isplitr; · iexact HR
    isplitl [Cb]; · iexact Cb
    isplitl [HO]; · iexact HO
    isplitr; · iexact Hlev
    isplitl [Abar]; · iexact Abar
    isplitl [Hw]; · iexact Hw
    isplitl [H0]; · iexact H0
    isplitl [H1]; · iexact H1
    isplitl [TsS1] <;> iassumption
  iintro ⟨⟨%W3, HO⟩, Zbar, Hw, H0, Hoc, Ho0, Ho2, Hi0, Hi2, Ha0, Ha1, Ha2, CsS1⟩
  rw [wp_bind]
  iapply (part4 B K c W3) $$ [HO Ho0 Hi0 TsS0 TsR0 Ho2 Hi2 TsS2 TsR2 H0 CsR0 AsR0]
  · isplitr; · iexact HR
    isplitl [HO]; · iexact HO
    isplitr; · iexact Hlev
    isplitl [Ho0]; · iexact Ho0
    isplitl [Hi0]; · iexact Hi0
    isplitl [TsS0]; · iexact TsS0
    isplitl [TsR0]; · iexact TsR0
    isplitl [Ho2]; · iexact Ho2
    isplitl [Hi2]; · iexact Hi2
    isplitl [TsS2]; · iexact TsS2
    isplitl [TsR2]; · iexact TsR2
    isplitl [H0]; · iexact H0
    isplitl [CsR0] <;> iassumption
  iintro ⟨⟨%W4, HO⟩, CsS0, CsS2, H0, ZsR0, Hi0⟩
  rw [wp_bind]
  iapply (part5 B K c W4 _ _ _ f3 f4) $$ [HO CsR2 AsR2 CsR1 AsR1 Hac Hout]
  · isplitr; · iexact HR
    isplitl [HO]; · iexact HO
    isplitr; · iexact Hlev
    isplitl [CsR2]; · iexact CsR2
    isplitl [AsR2]; · iexact AsR2
    isplitl [CsR1]; · iexact CsR1
    isplitl [AsR1]; · iexact AsR1
    isplitl [Hac] <;> iassumption
  iintro ⟨⟨%W5, HO⟩, ZsR2, Hi2, ZsR1, Hi1, Hac, Hout⟩
  ihave Hac := (lend c (gathered B)).1 $$ Hac
  icases Hac with ⟨Hl0, Hl1, Hl2⟩
  rw [wp_bind]
  iapply (part6 B K c W5) $$ [HO Hl0 Hl1 Hl2 Ha0 Ha1 Ha2 TaS0 TaR0 TaS1 TaR1 TaS2 TaR2]
  · isplitr; · iexact HR
    isplitl [HO]; · iexact HO
    isplitl [Hl0]; · iexact Hl0
    isplitl [Hl1]; · iexact Hl1
    isplitl [Hl2]; · iexact Hl2
    isplitl [Ha0]; · iexact Ha0
    isplitl [Ha1]; · iexact Ha1
    isplitl [Ha2]; · iexact Ha2
    isplitl [TaS0]; · iexact TaS0
    isplitl [TaR0]; · iexact TaR0
    isplitl [TaS1]; · iexact TaS1
    isplitl [TaR1]; · iexact TaR1
    isplitl [TaS2] <;> iassumption
  iintro ⟨HO, CaS0, CaS1, CaS2⟩
  rw [wp_bind]
  iapply (part7 B K c W5 _ _ _ _) $$ [HO CaR0 AaR0 CaR2 AaR2 CaR1 AaR1 Hout]
  · isplitr; · iexact HR
    isplitl [HO]; · iexact HO
    isplitr; · iexact Hlev
    isplitl [CaR0]; · iexact CaR0
    isplitl [AaR0]; · iexact AaR0
    isplitl [CaR2]; · iexact CaR2
    isplitl [AaR2]; · iexact AaR2
    isplitl [CaR1]; · iexact CaR1
    isplitl [AaR1] <;> iassumption
  iintro ⟨⟨%W7, HO⟩, ZaR0, ZaR1, ZaR2, Hg0, Hg1, Hg2, Hout⟩
  rw [wp_bind]
  iapply (part8 B K c W7 _ _) $$ [HO Hg1 Hout CsS1 AsS1 CsS0 AsS0 CsS2 AsS2]
  · isplitr; · iexact HR
    isplitl [HO]; · iexact HO
    isplitr; · iexact Hlev
    isplitl [Hg1]; · iexact Hg1
    isplitl [Hout]; · iexact Hout
    isplitl [CsS1]; · iexact CsS1
    isplitl [AsS1]; · iexact AsS1
    isplitl [CsS0]; · iexact CsS0
    isplitl [AsS0]; · iexact AsS0
    isplitl [CsS2] <;> iassumption
  iintro ⟨⟨%W8, HO⟩, Hg1, Hout, ZsS0, ZsS1, ZsS2, Ho0, Ho1, Ho2⟩
  rw [result_eq]
  simp only [Prog.lift, Prog.bind_op, Prog.bind_ret, Prog.pure_eq_ret]
  iapply (wait_step B K c (agS 1) rfl rfl (sem_agS 1 _) (credit_ag _) ((dues c).drop 9) (fun x h => absurd h List.not_mem_nil) W8) $$ [CaS1 HO AaS1]
  · isplitr; · iexact HR
    isplitl [CaS1]; · iexact CaS1
    isplitl [HO]; · iexact HO
    isplitr; · iexact Hlev
    iexact AaS1
  iintro ⟨⟨%W9, HO⟩, ZaS1, Hl1⟩
  iapply (wait_step B K c (agS 0) rfl rfl (sem_agS 0 _) (credit_ag _) ((dues c).drop 9) (fun x h => absurd h List.not_mem_nil) W9) $$ [CaS0 HO AaS0]
  · isplitr; · iexact HR
    isplitl [CaS0]; · iexact CaS0
    isplitl [HO]; · iexact HO
    isplitr; · iexact Hlev
    iexact AaS0
  iintro ⟨⟨%W10, HO⟩, ZaS0, Hl0⟩
  iapply (wait_step B K c (agS 2) rfl rfl (sem_agS 2 _) (credit_ag _) ((dues c).drop 9) (fun x h => absurd h List.not_mem_nil) W10) $$ [CaS2 HO AaS2]
  · isplitr; · iexact HR
    isplitl [CaS2]; · iexact CaS2
    isplitl [HO]; · iexact HO
    isplitr; · iexact Hlev
    iexact AaS2
  iintro ⟨⟨%W11, HO⟩, ZaS2, Hl2⟩
  ihave Hl0 := (show payOf B c (agS 0) 0 ⊢ agSlot (lent 0) c c (gathered B) from Entails.refl _) $$ Hl0
  ihave Hl1 := (show payOf B c (agS 1) 0 ⊢ agSlot (lent 1) c c (gathered B) from Entails.refl _) $$ Hl1
  ihave Hl2 := (show payOf B c (agS 2) 0 ⊢ agSlot (lent 2) c c (gathered B) from Entails.refl _) $$ Hl2
  imod (unused B K c (rsR c) (if_pos rfl)) $$ [AsRc] with ZsRc
  · isplitr; · iexact HR
    iexact AsRc
  imod (unused B K c (agR c) (if_pos rfl)) $$ [AaRc] with ZaRc
  · isplitr; · iexact HR
    iexact AaRc
  iapply (finish c)
  iapply Hk
  isplitl [HO]; · iexists _; iexact HO
  isplitl [Zbar ZsS0 ZsS1 ZsS2 ZaS0 ZaS1 ZaS2 ZsRc ZsR0 ZsR1 ZsR2 ZaRc ZaR0 ZaR1 ZaR2]
  · isplitl [Zbar]; · iexact Zbar
    isplitl [ZsS0]; · iexact ZsS0
    isplitl [ZsS1]; · iexact ZsS1
    isplitl [ZsS2]; · iexact ZsS2
    isplitl [ZaS0]; · iexact ZaS0
    isplitl [ZaS1]; · iexact ZaS1
    isplitl [ZaS2]; · iexact ZaS2
    isplitl [ZsRc]; · iexact ZsRc
    isplitl [ZsR0]; · iexact ZsR0
    isplitl [ZsR1]; · iexact ZsR1
    isplitl [ZsR2]; · iexact ZsR2
    isplitl [ZaRc]; · iexact ZaRc
    isplitl [ZaR0]; · iexact ZaR0
    isplitl [ZaR1]; · iexact ZaR1
    iexact ZaR2
  isplitr [Hx Hrt Hids Hw Hout]
  · isplitl [H0]; · iexists _; iexact H0
    isplitl [Hoc Ho0 Ho1 Ho2]
    · iapply (out_join c _ _ _ _)
      isplitl [Hoc]; · iexact Hoc
      isplitl [Ho0]; · iexact Ho0
      isplitl [Ho1] <;> iassumption
    isplitl [Hic Hi0 Hi1 Hi2]
    · iapply (in_join c _ _ _ _)
      isplitl [Hic]; · iexact Hic
      isplitl [Hi0]; · iexact Hi0
      isplitl [Hi1] <;> iassumption
    iapply (ag_join c (gathered B) (gathered B) (gathered B) (gathered B))
    isplitl [Hl0 Hl1 Hl2]
    · iapply (lend c (gathered B)).2
      isplitl [Hl0]; · iexact Hl0
      isplitl [Hl1] <;> iassumption
    isplitl [Hg0]; · iexact Hg0
    isplitl [Hg1] <;> iassumption
  isplitr [Hout]
  · isplitl [Hx]; · iexact Hx
    isplitl [Hrt]; · iexact Hrt
    isplitl [Hids] <;> iassumption
  iexact Hout

end Cert.Exchange
-- ==== Proof.Deal.lean ====
/-
# `Deal`: what the launch mints and how it is dealt out

The semaphores' accounts and the rights to raise them are made once for all four devices. Each right goes to the device
that will use it, so nothing needs passing round afterwards; every semaphore's account is put where all devices can read
it. The credit a device starts with is what the other devices owe its semaphores, counted.
-/
module

public import proofs.«01_k».proof.Proof.Third

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cel

variable {F : FTy → Type} [FloatOps F]

local notation "𝕄" => MT nD τ sig Unit (Elt F) ℕ UU ℕ

variable (B : Inputs F)

/-! ## The semaphores and the rights, as finite sets -/

/-- The semaphores of the exchange the kernel allocates: all but the barrier. -/
def osem (k : Fin 14) : SemLoc sig := .dma (dmaAt k.val k.isLt)

theorem ownSemFacts : Pipeline.OwnSemFacts cfg0.spec osem := by decide

theorem cell_injective : Function.Injective fun x : Dev nD × Cel => cell x.1 x.2 :=
  fun _ _ h => Prod.ext (cell_eq_iff.mp h).1 (cell_eq_iff.mp h).2

def exCells : Finset (GSem nD τ sig) := Finset.univ.map ⟨fun x : Dev nD × Cel => cell x.1 x.2, cell_injective⟩

/-- Device `c`'s right number `i` about the device `k + 1` places on: on whose semaphore, which, as which duty. -/
def rightOf (x : (Dev nD × Fin 3) × Fin 5) : (Dev nD × Cel) × Fin 4 :=
  match x.2 with
  | 0 => ((peer x.1.2 x.1.1, bar), x.1.1)
  | 1 => ((peer x.1.2 x.1.1, rsR x.1.1), 0)
  | 2 => ((peer x.1.2 x.1.1, agR x.1.1), 0)
  | 3 => ((x.1.1, rsS x.1.2), 0)
  | 4 => ((x.1.1, agS x.1.2), 0)

theorem rightOf_injective : Function.Injective rightOf := by
  intro a b
  revert a b
  decide +kernel

def tokOf (x : (Dev nD × Fin 3) × Fin 5) : GSem nD τ sig × ℕ × Fin 4 := (cell (rightOf x).1.1 (rightOf x).1.2, 0, (rightOf x).2)

theorem tokOf_injective : Function.Injective tokOf := fun a b h =>
  rightOf_injective (Prod.ext (cell_injective (congrArg (fun y : GSem nD τ sig × ℕ × Fin 4 => y.1) h))
    (congrArg (fun y : GSem nD τ sig × ℕ × Fin 4 => y.2.2) h))

def exToks : Finset (GSem nD τ sig × ℕ × Fin 4) := Finset.univ.map ⟨tokOf, tokOf_injective⟩

def u₀ : UU :=
  (initOf (Pipeline.cells cfgs cellOf_inj) (Pipeline.launchToks cfgs cellOf_inj), initOf exCells exToks)

/-! ## Dealing -/

/-- What is minted for device `c`. -/
def minted (c : Dev nD) : sProp 𝕄 :=
  iprop((bigSep Finset.univ fun j => roundState ER (sched B) (cell c j) 0)
    ∗ (bigSep Finset.univ fun j => iprop(before c j ∗ reached ER (cell c j) 0)) ∗ bigSep Finset.univ fun k => rights c k)

/-- What it becomes once the accounts are shared. -/
def dealt (c : Dev nD) : sProp 𝕄 := iprop(∃ K, ghost B K c)

theorem exCells_eq (Φ : GSem nD τ sig → sProp 𝕄) :
    bigSep exCells Φ = bigSep Finset.univ fun c : Dev nD => bigSep Finset.univ fun j : Cel => Φ (cell c j) := by
  unfold exCells
  rw [bigSep_map, bigSep_univ_prod]
  rfl

theorem five_eq (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem exToks_eq : bigSep exToks (fun x => (dutyTok ER x.1 x.2.1 x.2.2 : sProp 𝕄))
    = bigSep Finset.univ fun c : Dev nD => bigSep Finset.univ fun k => rights c k := by
  unfold exToks
  rw [bigSep_map, bigSep_univ_prod, bigSep_univ_prod]
  exact bigSep_congr fun c _ => bigSep_congr fun k _ => by rw [five_eq]; rfl

theorem mint : BI.own (ER (initOf exCells exToks)) ⊢ (|==> bigSep Finset.univ (minted B) : sProp 𝕄) := by
  iintro HX
  imod (Rounds.fund ER (sched B) exCells exToks) $$ HX with ⟨Hst, Hr, Hat, Htok⟩
  imodintro
  ihave Hst := (Entails.of_eq (exCells_eq fun g => roundState ER (sched B) g 0)) $$ Hst
  ihave Hat := (Entails.of_eq (exCells_eq fun g => atPos ER g 0 ∅ 0)) $$ Hat
  ihave Hr := (Entails.of_eq (exCells_eq fun g => reached ER g 0)) $$ Hr
  ihave Htok := (Entails.of_eq exToks_eq) $$ Htok
  unfold minted
  simp only [bigSep_sep']
  isplitl [Hst]; · iexact Hst
  isplitl [Hat Hr]
  · isplitl [Hat] <;> iassumption
  iexact Htok

/-! ### The semaphores at zero -/

local notation "own0" => Pipeline.ownSems0 (Ix := Unit) (Name := ℕ) (U := UU) (Lvl := ℕ) (Val := Elt F) (τ := τ) osem

theorem own0_eq (c : Dev nD) : (own0 c : sProp 𝕄)
    = iprop(closed c (rsS 0) ∗ closed c (rsS 1) ∗ closed c (rsS 2) ∗ closed c (rsR 0) ∗ closed c (rsR 1) ∗ closed c (rsR 2) ∗ closed c (rsR 3)
      ∗ closed c (agS 0) ∗ closed c (agS 1) ∗ closed c (agS 2) ∗ closed c (agR 0) ∗ closed c (agR 1) ∗ closed c (agR 2) ∗ closed c (agR 3)) := by
  rw [Pipeline.ownSems0_eq_of_list c osem [0, 1, 2, 3, 4, 5, 6, 7, 8, 9, 10, 11, 12, 13] (by decide) (by decide)]
  rfl

theorem barrier0_eq (c : Dev nD) : (unscopedSems0 c : sProp 𝕄) = closed c bar := by
  unfold unscopedSems0
  rw [bigSep_eq_bigSepL_of_eq [SemLoc.reg barS] (by decide) (by decide)]
  rfl

theorem all_eq (Φ : Cel → sProp 𝕄) : bigSep Finset.univ Φ = iprop(Φ bar ∗ Φ (rsS 0) ∗ Φ (rsS 1) ∗ Φ (rsS 2)
      ∗ Φ (rsR 0) ∗ Φ (rsR 1) ∗ Φ (rsR 2) ∗ Φ (rsR 3) ∗ Φ (agS 0) ∗ Φ (agS 1) ∗ Φ (agS 2)
      ∗ Φ (agR 0) ∗ Φ (agR 1) ∗ Φ (agR 2) ∗ Φ (agR 3)) :=
  bigSep_univ_eq_bigSepL Cel.all (Finset.ext fun j => ⟨fun _ => List.mem_toFinset.mpr (mem_all j), fun _ => Finset.mem_univ _⟩) all_nodup Φ

/-- The kernel's own semaphores and the barrier are the fifteen. -/
theorem zeros_eq (c : Dev nD) : iprop(unscopedSems0 c ∗ own0 c) = (bigSep Finset.univ fun j => closed c j : sProp 𝕄) := by
  rw [own0_eq, barrier0_eq, all_eq]

/-! ### The accounts, made and shared -/

/-- One device's accounts are opened. -/
theorem opened (c : Dev nD) : iprop(own0 c ∗ unscopedSems0 c ∗ minted B c)
    ⊢ |={Set.univ}=> iprop((bigSep Finset.univ fun j => iprop(∃ κ : ℕ, cellInv ER (sched B) κ (cell c j)))
        ∗ (bigSep Finset.univ fun j => iprop(before c j ∗ reached ER (cell c j) 0)) ∗ bigSep Finset.univ fun k => rights c k) := by
  unfold minted
  iintro ⟨Hos, Hus, Hst, Hat, Htok⟩
  ihave Hv := (Entails.of_eq (zeros_eq (F := F) c)) $$ [Hos Hus]
  · isplitl [Hus] <;> iassumption
  imod (show iprop((bigSep Finset.univ fun j => closed c j) ∗ bigSep Finset.univ fun j : Cel => roundState ER (sched B) (cell c j) 0)
      ⊢ (|={Set.univ}=> bigSep Finset.univ fun j => iprop(∃ κ : ℕ, cellInv ER (sched B) κ (cell c j)) : sProp 𝕄) from by
        rw [← bigSep_sep']
        exact (bigSep_mono fun j _ => (Rounds.body_intro ER (sched B) (cell c j)).trans inv_alloc).trans (bigSep_fupd _ _)) $$ [Hv Hst] with Hinv
  · isplitl [Hv] <;> iassumption
  imodintro
  isplitl [Hinv]; · iexact Hinv
  isplitl [Hat]; · iexact Hat
  iexact Htok

/-- What every copy of a family shares may be handed to each of its members. -/
theorem to_each {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem shared : (bigSep Finset.univ fun c : Dev nD => iprop((bigSep Finset.univ fun j => iprop(∃ κ : ℕ, cellInv ER (sched B) κ (cell c j)))
        ∗ (bigSep Finset.univ fun j => iprop(before c j ∗ reached ER (cell c j) 0)) ∗ bigSep Finset.univ fun k => rights c k) : sProp 𝕄)
      ⊢ bigSep Finset.univ (dealt B) := by
  rw [bigSep_sep', bigSep_sep', ← bigSep_univ_prod (fun x : Dev nD × Cel => iprop(∃ κ : ℕ, cellInv ER (sched B) κ (cell x.1 x.2))),
    bigSep_congr (s := Finset.univ) (fun (c : Dev nD) _ => bigSep_sep' Finset.univ (fun j : Cel => (before c j : sProp 𝕄)) (fun j => reached ER (cell c j) 0)),
    bigSep_sep', ← bigSep_univ_prod (fun x : Dev nD × Cel => (reached ER (cell x.1 x.2) 0 : sProp 𝕄))]
  iintro ⟨HI, ⟨Hat, #HR⟩, Htok⟩
  ihave HK := (BI.bigSep_exists_pi Finset.univ (fun (x : Dev nD × Cel) (κ : ℕ) => (cellInv ER (sched B) κ (cell x.1 x.2) : sProp 𝕄))) $$ HI
  icases HK with ⟨%K, #HI⟩
  iapply (to_each (R := records B K) (Φ := fun c => iprop((bigSep Finset.univ fun j => before c j) ∗ bigSep Finset.univ fun k => rights c k))
    (fun c => by unfold dealt ghost; iintro H; iexists K; iexact H))
  isplitr
  · unfold records
    isplitl; · iexact HI
    iexact HR
  rw [bigSep_sep']
  isplitl [Hat] <;> iassumption

/-- The accounts of all devices are opened and shared. -/
theorem deal : (bigSep Finset.univ fun c => iprop(own0 c ∗ unscopedSems0 c ∗ minted B c) : sProp 𝕄)
    ⊢ |={Set.univ}=> bigSep Finset.univ (dealt B) :=
  ((bigSep_mono fun c _ => opened B c).trans (bigSep_fupd _ _)).trans (BI.fupd_mono (shared B))

/-! ## The credit a device starts with -/

/-- The semaphores a device raises on the others. -/
def duesAt (c : Dev nD) : List (Dev nD × Cel) :=
  [(peer 0 c, bar), (peer 1 c, bar), (peer 2 c, bar), (peer 1 c, rsR c), (peer 0 c, rsR c), (peer 2 c, rsR c),
    (peer 1 c, agR c), (peer 0 c, agR c), (peer 2 c, agR c)]

theorem dues_eq (c : Dev nD) : dues c = (duesAt c).map fun x => (cell x.1 x.2, amountOf x.2) := rfl

theorem total_at (l : List (Dev nD × Cel)) (c : Dev nD) (j : Cel) :
    total (l.map fun x => (cell x.1 x.2, amountOf x.2)) (cell c j) () = amountOf j * l.count (c, j) := by
  induction l with
  | nil => rfl
  | cons x l ih =>
    show (total (l.map fun x => (cell x.1 x.2, amountOf x.2)) + tallyAt (cell x.1 x.2) () (amountOf x.2)) (cell c j) () = _
    rw [Pi.add_apply, Finsupp.add_apply, ih, tallyAt_apply, List.count_cons, Nat.mul_add]
    by_cases h : x = (c, j)
    · subst h
      rw [if_pos ⟨rfl, rfl⟩, if_pos (beq_self_eq_true _), Nat.mul_one]
    · rw [if_neg (fun h' => h (cell_injective h'.1).symm), if_neg (fun h' => h (eq_of_beq h')), Nat.mul_zero]

theorem owed_at (d c : Dev nD) (j : Cel) : owed d 0 (cell c j) () = amountOf j * (duesAt d).count (c, j) := total_at (duesAt d) c j

/-- What the devices together owe a semaphore. -/
theorem launch_at (c : Dev nD) (j : Cel) (n : ℕ) (h : ∑ d : Dev nD, (duesAt d).count (c, j) = n) :
    tallyOn (cell c j) (launchCredit (Pipeline.owing fun d => owed d 0) 0 (cell c j)) = (tallyAt (cell c j) () (amountOf j * n) : CellTallies nD τ sig Unit) := by
  unfold tallyAt
  refine congrArg _ (Finsupp.ext fun u => ?_)
  cases u
  rw [Pipeline.launchCredit_owing, Finsupp.single_eq_same, Finset.sum_congr rfl fun d _ => owed_at d c j, ← Finset.mul_sum, h]

theorem count_bar (c : Dev nD) : ∑ d : Dev nD, (duesAt d).count (c, bar) = 3 := by revert c; decide +kernel
theorem count_rsR (c : Dev nD) (k : Fin 3) : ∑ d : Dev nD, (duesAt d).count (c, rsR (peer k c)) = 1 := by revert c k; decide +kernel
theorem count_agR (c : Dev nD) (k : Fin 3) : ∑ d : Dev nD, (duesAt d).count (c, agR (peer k c)) = 1 := by revert c k; decide +kernel

theorem credits_of (c : Dev nD) : (Pipeline.launchCred (fun d => owed d 0) c : sProp 𝕄) ⊢ credits c := by
  have hall : (Pipeline.launchCred (fun d => owed d 0) c : sProp 𝕄)
      ⊢ bigSep Finset.univ fun j : Cel => cred (tallyOn (cell c j) (launchCredit (Pipeline.owing fun d => owed d 0) 0 (cell c j))) := by
    unfold Pipeline.launchCred
    refine (bigSep_subset (Finset.subset_univ (Finset.univ.map ⟨semOf, semOf_injective⟩))).trans ?_
    rw [bigSep_map]
    exact Entails.refl _
  refine hall.trans ?_
  rw [cels_eq c, launch_at c bar 3 (count_bar c), launch_at c _ 1 (count_rsR c 0), launch_at c _ 1 (count_rsR c 1), launch_at c _ 1 (count_rsR c 2),
    launch_at c _ 1 (count_agR c 0), launch_at c _ 1 (count_agR c 1), launch_at c _ 1 (count_agR c 2)]
  simp only [amountOf, Nat.mul_one, Nat.one_mul]
  unfold credits
  rw [places_eq, places_eq]
  iintro ⟨Hb, -, -, -, -, -, -, -, HR0, HR1, HR2, -, HA0, HA1, HA2⟩
  isplitl [Hb]; · iexact Hb
  isplitl [HR0 HR1 HR2]
  · isplitl [HR0]; · iexact HR0
    isplitl [HR1]; · iexact HR1
    iexact HR2
  isplitl [HA0]; · iexact HA0
  isplitl [HA1]; · iexact HA1
  iexact HA2

end Cert.Exchange
-- ==== Proof.Run.lean ====
/-
# `Run`: every execution of the program

From any memory with every counter at zero, on four devices: the program ends, without a fault, with its arguments as
they were, every counter at zero again, and device `c`'s result buffer holding `result` of what the devices were given.
-/
module

public import proofs.«01_k».proof.Proof.Deal
public import proofs.«01_k».proof.Proof.Gen.KernelIdeal.Points
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cel

variable {F : FTy → Type} [FloatOps F]

local notation "𝕄" => MT nD τ sig Unit (Elt F) ℕ UU ℕ

variable (m : (ℓ : Loc nD τ sig) → Buf (Elt F) ℓ) (ρ : Dev nD → PrngReg)

/-- The start: these contents, every counter at zero. -/
def s₀ : MemSt nD τ sig (Elt F) := ⟨m, fun _ => 0, ρ⟩

/-! ## What the devices are given -/

/-- What the devices are given, read off the memory. -/
def given : Inputs F where
  x c := m ((c : Thread nD τ).loc main_arg0)
  router c := m ((c : Thread nD τ).loc main_arg1)
  ids c := m ((c : Thread nD τ).loc main_arg2)
  w c := m ((c : Thread nD τ).loc main_arg3)

/-! ## The one point of the pipeline -/

/-- Before it: the exchange's resources and the scratch buffers; -/
def Φ₀ (c : Dev nD) : sProp 𝕄 := iprop(dealt (given m) c ∗ credits c ∗ levAts L lv ∗ scratch c)
/-- after it: the scratch buffers and the semaphores at zero. -/
def Φ₁ (c : Dev nD) : sProp 𝕄 := iprop(scratch c ∗ bigSep Finset.univ fun j => closed c j)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (given m).x c
    | ⟨1, _⟩ => (given m).router c
    | ⟨2, _⟩ => (given m).ids c
    | ⟨3, _⟩ => (given m).w c
    | ⟨4, _⟩ => result (given m) c
  Φ t := match t with
    | ⟨0, _⟩ => Φ₀ m c
    | ⟨_ + 1, _⟩ => Φ₁ c
  q _ := fullShare
  owed t := match t with
    | ⟨0, _⟩ => owed c 0
    | ⟨_ + 1, _⟩ => 0

theorem windows_eq (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns
  simp only [Memref.view_whole, View.read_whole, View.set_whole]

theorem zero_at0 : (fun a => (win0_0.index (0 : Fin 1)) a * main_arg0.ty.shape.size a) = fun _ => 0 := funext fun a => by fin_cases a <;> decide
theorem read_arg0 (f : main_arg0.ty.Contents (Elt F)) : (win0_0.blk (0 : Fin 1)).view.read (Elt F) f = f :=
  Memref.read_access_unit_zero (Elt F) main_arg0 zero_at0 (fun a => by fin_cases a <;> decide) f
/-- The staged argument 0 is the argument. -/
theorem before_0 (c : Dev nD) (d) : (dats m ρ 0 c).before (0 : Fin 5) t0_0 d = (given m).x c := by
  unfold Dat.before
  rw [if_pos (fetch0_0 t0_0)]
  exact read_arg0 (F := F) _

theorem zero_at1 : (fun a => (win0_1.index (0 : Fin 1)) a * main_arg1.ty.shape.size a) = fun _ => 0 := funext fun a => by fin_cases a <;> decide
theorem read_arg1 (f : main_arg1.ty.Contents (Elt F)) : (win0_1.blk (0 : Fin 1)).view.read (Elt F) f = f :=
  Memref.read_access_unit_zero (Elt F) main_arg1 zero_at1 (fun a => by fin_cases a <;> decide) f
/-- The staged argument 1 is the argument. -/
theorem before_1 (c : Dev nD) (d) : (dats m ρ 0 c).before (1 : Fin 5) t0_0 d = (given m).router c := by
  unfold Dat.before
  rw [if_pos (fetch0_1 t0_0)]
  exact read_arg1 (F := F) _

theorem zero_at2 : (fun a => (win0_2.index (0 : Fin 1)) a * main_arg2.ty.shape.size a) = fun _ => 0 := funext fun a => by fin_cases a <;> decide
theorem read_arg2 (f : main_arg2.ty.Contents (Elt F)) : (win0_2.blk (0 : Fin 1)).view.read (Elt F) f = f :=
  Memref.read_access_unit_zero (Elt F) main_arg2 zero_at2 (fun a => by fin_cases a <;> decide) f
/-- The staged argument 2 is the argument. -/
theorem before_2 (c : Dev nD) (d) : (dats m ρ 0 c).before (2 : Fin 5) t0_0 d = (given m).ids c := by
  unfold Dat.before
  rw [if_pos (fetch0_2 t0_0)]
  exact read_arg2 (F := F) _

theorem zero_at3 : (fun a => (win0_3.index (0 : Fin 1)) a * main_arg3.ty.shape.size a) = fun _ => 0 := funext fun a => by fin_cases a <;> decide
theorem read_arg3 (f : main_arg3.ty.Contents (Elt F)) : (win0_3.blk (0 : Fin 1)).view.read (Elt F) f = f :=
  Memref.read_access_unit_zero (Elt F) main_arg3 zero_at3 (fun a => by fin_cases a <;> decide) f
/-- The staged argument 3 is the argument. -/
theorem before_3 (c : Dev nD) (d) : (dats m ρ 0 c).before (3 : Fin 5) t0_0 d = (given m).w c := by
  unfold Dat.before
  rw [if_pos (fetch0_3 t0_0)]
  exact read_arg3 (F := F) _

theorem zero_at4 : (fun a => (win0_4.index (0 : Fin 1)) a * main_v1.ty.shape.size a) = fun _ => 0 := funext fun a => by fin_cases a <;> decide
theorem read_out (f : main_v1.ty.Contents (Elt F)) : (win0_4.blk (0 : Fin 1)).view.read (Elt F) f = f :=
  Memref.read_access_unit_zero (Elt F) main_v1 zero_at4 (fun a => by fin_cases a <;> decide) f

abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

def pointPre (c : Dev nD) : sProp 𝕄 :=
  iprop(Φ₀ m c ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ ∃ d, stg c cc0_stg4_0 ((dats m ρ 0 c).before (4 : Fin 5) t0_0 d))

def pointPost (c : Dev nD) : sProp 𝕄 :=
  iprop(Φ₁ c ∗ (dats m ρ 0 c).owesAt () t0_0.succ
    ∗ stg c cc0_stg0_0 ((given m).x c) ∗ stg c cc0_stg1_0 ((given m).router c) ∗ stg c cc0_stg2_0 ((given m).ids c) ∗ stg c cc0_stg3_0 ((given m).w c)
    ∗ stg c cc0_stg4_0 (result (given m) c))

/-- The body at the point. -/
theorem point (c : Dev nD) : pointPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          cc0_scratch4 cc0_scratch5 cc0_scratch6 cc0_scratch7) (fun _ => pointPost m ρ c) := by
  unfold pointPre Φ₀ dealt
  simp only [before_0, before_1, before_2, before_3]
  iintro ⟨⟨⟨%K, Hg⟩, Hcr, Hlev, Hscr⟩, Ho, ⟨%d0, %f0, %h0, H0⟩, ⟨%d1, %f1, %h1, H1⟩, ⟨%d2, %f2, %h2, H2⟩, ⟨%d3, %f3, %h3, H3⟩, ⟨%d4, %f4, %h4, H4⟩⟩
  subst h0 h1 h2 h3
  unfold Dat.owesAt Pipeline.owesWithin
  icases Ho with ⟨%W, %hW, HO⟩
  rw [show (dats m ρ 0 c).owed t0_0.castSucc = owed c 0 from rfl]
  iapply (whole_body (given m) K c W f4) $$ [Hg Hcr Hlev Hscr HO H0 H1 H2 H3 H4]
  · isplitl [Hg]; · iexact Hg
    isplitl [Hcr]; · iexact Hcr
    isplitl [Hlev]; · iexact Hlev
    isplitl [Hscr]; · iexact Hscr
    isplitl [HO]; · iexact HO
    isplitr [H4]
    · unfold staged
      isplitl [H0]; · iexact H0
      isplitl [H1]; · iexact H1
      isplitl [H2]; · iexact H2
      iexact H3
    iexact H4
  iintro ⟨⟨%W', HO⟩, Hz, Hscr, Hst, Hout⟩
  unfold staged
  icases Hst with ⟨H0, H1, H2, H3⟩
  unfold pointPost Φ₁
  isplitl [Hz Hscr]
  · isplitl [Hscr] <;> iassumption
  isplitl [HO]
  · unfold Dat.owesAt Pipeline.owesWithin
    iexists W'
    isplitr
    · ipureintro; exact fun _ _ => Or.inl trivial
    iexact HO
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists _; isplitr; · ipureintro; rfl
  iexact Hout

set_option maxRecDepth 4000 in
theorem body_obligation (c : Dev nD) : BodyObligation (dats (F := F) m ρ 0 c) (defs₀ (F := F)) 𝒱₀ () Set.univ := fun t => by
  rw [fin_N0 t, windows_eq, windows_eq]
  simp only [owns_staged]
  exact point m ρ c

/-! ## The launch -/

theorem share_eq (c : Dev nD) (w : Fin cfg0.W) : (dats m ρ 0 c).share w = fullShare := by unfold Dat.share; split <;> rfl

def start (c : Dev nD) : sProp 𝕄 := iprop(dealt (given m) c ∗ credits c ∗ levAts L lv)

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ dealt (given m) c)
      ⊢ |={Set.univ}=> iprop(start m c ∗ emp) := by
  iintro ⟨-, Hlev, Hcr, -, HG⟩
  ihave Hc := (credits_of (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start scratch
  iintro ⟨⟨HG, Hc, Hlev⟩, -, Hr⟩
  isplitl [HG]; · iexact HG
  isplitl [Hc]; · iexact Hc
  isplitl [Hlev]; · iexact Hlev
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, Hz⟩
  ihave Hz := (Entails.of_eq (zeros_eq (F := F) c).symm) $$ Hz
  icases Hz with ⟨Hu, Ho⟩
  isplitl [Hu]; · iexact Hu
  isplitl [Ho]; · iexact Ho
  iexact Hr

/-- The pipeline's own semaphores are at level zero. -/
theorem staging_level (c : Dev nD) (w : Fin cfg0.W) (s : Fin (cfg0.win w).nbuf) : lv ((c : Thread nD τ), SemLoc.dma ((cfg0.win w).sem s)) () ≤ 0 := by
  have h : (kindOf (SemLoc.dma ((cfg0.win w).sem s))).elim 0 levelOf ≤ 0 := by revert w s; decide +kernel
  exact h

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 (staging_level c w s) ((dues c).drop 0) (dues_levels c)
    · exact mayWait_of c _ 0 (staging_level c w s) [] (fun x h => absurd h List.not_mem_nil)

/-! ## The run -/

/-- What window `w`'s array holds on device `c` at the end. -/
def atEnd (c : Dev nD) (w : Fin cfg0.W) : Buf (Elt F) ((cfg0.win w).arr.view.loc (c : Thread nD τ)) := (dats m ρ 0 c).arrAt w cfg0.N

def AtEnd : PUnit × MemSt nD τ sig (Elt F) → Prop := fun r =>
  ∀ c : Dev nD, ∀ w : Fin cfg0.W, r.2.mem ((cfg0.win w).arr.view.loc (c : Thread nD τ)) = atEnd m ρ c w

set_option maxRecDepth 8000 in
theorem run_windows : θ_run defs (onTc (τ := τ) (main (F := F))) (s₀ m ρ) (fun r => AtEnd m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := minted (given m)) (G' := dealt (given m)) (u₀ := u₀)
    (hu₀ := by
      unfold u₀
      iintro Hu
      ihave H := (ownU_pair _ _) $$ Hu
      icases H with ⟨HP, HX⟩
      imod (mint (given m)) $$ HX with HG
      imodintro
      isplitl [HP] <;> iassumption)
    (hglob := deal (given m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array at the end. -/
theorem atEnd_out (c : Dev nD) : atEnd m ρ c (4 : Fin 5) = result (given m) c := by
  have h : (win0_4.blk (0 : Fin 1)).view.read (Elt F) (atEnd m ρ c (4 : Fin 5)) = result (given m) c := by
    unfold atEnd
    rw [show cfg0.N = ((0 : Fin 1) : Fin cfg0.N).val + 1 from rfl, (dats m ρ 0 c).arrAt_succ (4 : Fin 5) (0 : Fin 1),
      show (cfg0.win (4 : Fin 5)).flush (0 : Fin 1) = true from by decide, if_pos rfl]
    exact View.read_write_univ _ _
  exact (read_out _).symm.trans h

/-- The program's arguments, unchanged on every device. -/
def Kept (r : PUnit × MemSt nD τ sig (Elt F)) : Prop := ∀ c : Dev nD,
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

/-- Every execution, from any contents. -/
theorem run_main : θ_run defs (onTc (τ := τ) (main (F := F))) ⟨m, fun _ => 0, ρ⟩
    (fun r => (∀ c : Dev nD, r.2.mem ((c : Thread nD τ).loc main_v1) = result (given m) c) ∧ Kept m r ∧ r.2.sem = fun _ => 0) :=
  (θ_run defs _ _).mono (fun _ h => ⟨fun c => (h.1 c (4 : Fin 5)).trans (atEnd_out m ρ c),
      fun c => ⟨(h.1 c (0 : Fin 5)).trans ((dats m ρ 0 c).arrAt_in (0 : Fin 5) rfl _), (h.1 c (1 : Fin 5)).trans ((dats m ρ 0 c).arrAt_in (1 : Fin 5) rfl _),
        (h.1 c (2 : Fin 5)).trans ((dats m ρ 0 c).arrAt_in (2 : Fin 5) rfl _), (h.1 c (3 : Fin 5)).trans ((dats m ρ 0 c).arrAt_in (3 : Fin 5) rfl _)⟩,
      h.2⟩)
    (run_windows m ρ)

end Cert.Exchange
-- ==== Proof.Frames.lean ====
/-
# `Frames`: what holds of every run, whatever the arguments

The kernel and its idealization have one text, so the one run (`Exchange.run_main`) is read at both kinds of floats. The
reference is a list of host operations on one device.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Frames

open Idealize.ShloMosaic Idealize.SL.Sem

/-- The run, its result left unsaid. -/
theorem run {F : FTy → Type} [FloatOps F] (m : (ℓ : Loc KernelIdeal.nD KernelIdeal.τ KernelIdeal.sig) → Buf (Elt F) ℓ) (ρ : Dev KernelIdeal.nD → PrngReg) :
    θ_run KernelIdeal.defs (onTc (τ := KernelIdeal.τ) (KernelIdeal.main (F := F))) ⟨m, fun _ => 0, ρ⟩
      (fun r => Exchange.Kept m r ∧ r.2.sem = fun _ => 0) :=
  (θ_run KernelIdeal.defs _ _).mono (fun _ h => ⟨h.2.1, h.2.2⟩) (Exchange.run_main m ρ)

/-! The two programs have the same text, so the same tables of bodies. -/
section Same
variable {F : FTy → Type} [FloatOps F]

theorem same_bodies : Cert.Kernel.defs₀ (F := F) = KernelIdeal.defs₀ (F := F) := by
  unfold Cert.Kernel.defs₀ KernelIdeal.defs₀
  refine congrArg Defs.onTc ?_
  funext l x
  match l, x with
  | 0, (t, s) => rfl

theorem same_defs : Cert.Kernel.defs (F := F) = KernelIdeal.defs (F := F) := by
  unfold Cert.Kernel.defs KernelIdeal.defs
  rw [same_bodies]
  rfl

end Same

/-- The kernel as it runs: it ends, its arguments as they were, every counter at zero. -/
theorem kernel : Cert.quiescent_Kernel := fun m ρ _ => by
  have h := run (F := Bits) m ρ
  rw [← same_defs] at h
  exact h

/-- The kernel over the extended reals. -/
theorem kernelIdeal : Cert.quiescent_KernelIdeal := fun m ρ _ => run (F := Ideal) m ρ

/-- The reference, which has no semaphore. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Frames
-- ==== Proof.Lookups.lean ====
/-
# `Lookups`: the reference's two lookups, at an expert number in range

A token's expert number picks one of the eight probabilities in the token's row, and one of the eight expert matrices.
Both lookups first move a negative number up by eight and then force it into the table; a number from 0 to 7 is left as it is.
-/
module

public import proofs.«01_k».proof.Proof.Gen.ReferenceIdeal
public import Idealize.ShloMosaic.Lib.Pointwise

@[expose] public section

noncomputable section

namespace Cert.Lookups

open Idealize.ShloMosaic Cert.ReferenceIdeal Cert.ReferenceIdeal.Gen

/-- The word of an expert number. -/
abbrev word (e : Fin 8) : BitVec 32 := BitVec.ofNat 32 e.val

/-- Neither step of a lookup changes an expert number. -/
theorem kept_word (e : Fin 8) :
    (Scalar.select (IntOp.cmpi .slt (word e) 0#32) (IntOp.addi (word e) 8#32) (word e)) = word e := by
  revert e; decide
theorem forced_word (e : Fin 8) : min (word e).toInt.toNat 7 = e.val := by revert e; decide

/-- Entry `r` of a lookup along the rows of a 256×8 table. -/
theorem along_row {α : Type} (p : S256x8.Idx → α) (i : IVec S256x1x1 32) (r : Fin 256) (e : Fin 8) (h : i (ix3 r 0 0) = word e) :
    Host.gather gather_S256x8_S256x1x1_S256x1_n_1_0_0_1_2_11 p i (ix2 r 0) = p (ix2 r e) := by
  refine congrArg p (funext fun a => Fin.ext ?_)
  match a with
  | ⟨0, _⟩ => exact Nat.zero_add _
  | ⟨1, _⟩ =>
    refine Eq.trans ?_ (forced_word e)
    rw [← h]
    show min (i (GatherDims.siIdx _ (ix2 r 0) _)).toInt.toNat 7 + 0 + 0 = _
    refine congrArg (fun x => min (i x).toInt.toNat 7) (funext fun b => Fin.ext ?_)
    match b with
    | ⟨0, _⟩ => rfl
    | ⟨1, _⟩ => rfl
    | ⟨2, _⟩ => rfl

/-- Entry `(r, d, h)` of a lookup of eight 128×256 matrices. -/
theorem of_matrices {α : Type} (w : S8x128x256.Idx → α) (i : IVec S256x1 32) (r : Fin 256) (d : Fin 128) (h : Fin 256) (e : Fin 8)
    (he : i (ix2 r 0) = word e) :
    Host.gather gather_S8x128x256_S256x1_S256x128x256_12_0_n_n_0_1_1128256 w i (ix3 r d h) = w (ix3 e d h) := by
  refine congrArg w (funext fun a => Fin.ext ?_)
  match a with
  | ⟨0, _⟩ =>
    refine Eq.trans ?_ (forced_word e)
    rw [← he]
    show min (i (GatherDims.siIdx _ (ix3 r d h) _)).toInt.toNat 7 + 0 + 0 = _
    refine congrArg (fun x => min (i x).toInt.toNat 7) (funext fun b => Fin.ext ?_)
    match b with
    | ⟨0, _⟩ => rfl
    | ⟨1, _⟩ => rfl
  | ⟨1, _⟩ => exact Nat.zero_add _
  | ⟨2, _⟩ => exact Nat.zero_add _

end Cert.Lookups
-- ==== Proof.Weights.lean ====
/-
# `Weights`: the routing weights, over the extended reals

A token's eight scores are turned into probabilities: each score less the greatest, raised to an exponential, over the sum
of the eight. From real scores they are positive reals, so the two that a token picks have a positive real sum, and each over
that sum is a real that is not negative. A factor like that may be taken in and out of a sum of extended reals, whatever the
terms are.
-/
module

public import Idealize.ShloMosaic.PureOps.Ideal.Laws

@[expose] public section

noncomputable section

namespace Cert.Weights

open Idealize.ShloMosaic

/-- An extended real that is a real. -/
def IsReal (a : EReal) : Prop := ∃ r : ℝ, a = r
/-- One that is a positive real. -/
def IsPos (a : EReal) : Prop := ∃ r : ℝ, 0 < r ∧ a = r
/-- One that is a real and not negative. -/
def IsShare (a : EReal) : Prop := ∃ r : ℝ, 0 ≤ r ∧ a = r

theorem IsReal.of_abs_lt {a : EReal} (h : max a (-a) < ⊤) : IsReal a := by
  induction a with
  | bot => exact absurd h (by simp)
  | top => exact absurd h (by simp)
  | coe r => exact ⟨r, rfl⟩

theorem IsReal.mul {a b : EReal} : IsReal a → IsReal b → IsReal (a * b) := by
  rintro ⟨r, rfl⟩ ⟨s, rfl⟩; exact ⟨r * s, (EReal.coe_mul r s).symm⟩
theorem IsReal.sub {a b : EReal} : IsReal a → IsReal b → IsReal (a - b) := by
  rintro ⟨r, rfl⟩ ⟨s, rfl⟩; exact ⟨r - s, (EReal.coe_sub r s).symm⟩
theorem IsReal.sum {ι : Type} (s : Finset ι) (f : ι → EReal) (h : ∀ i, IsReal (f i)) : IsReal (∑ i ∈ s, f i) := by
  classical
  induction s using Finset.induction_on with
  | empty => exact ⟨0, by simp⟩
  | insert i s hi ih =>
    obtain ⟨r, hr⟩ := h i
    obtain ⟨t, ht⟩ := ih
    exact ⟨r + t, by rw [Finset.sum_insert hi, hr, ht, EReal.coe_add]⟩

/-- The greatest of eight reals. -/
theorem IsReal.greatest (f : Fin 8 → EReal) (h : ∀ i, IsReal (f i)) : IsReal (Finset.univ.fold max ⊥ f) := by
  obtain ⟨i, -, hi⟩ := Finset.exists_mem_eq_sup Finset.univ Finset.univ_nonempty f
  obtain ⟨r, hr⟩ := h i
  exact ⟨r, Eq.trans (show Finset.univ.fold max ⊥ f = Finset.univ.sup f from rfl) (hi.trans hr)⟩

theorem IsReal.exp {a : EReal} : IsReal a → IsPos (Ideal.exp a) := by
  rintro ⟨r, rfl⟩; exact ⟨Real.exp r, Real.exp_pos r, rfl⟩

theorem IsPos.add {a b : EReal} : IsPos a → IsPos b → IsPos (a + b) := by
  rintro ⟨r, hr, rfl⟩ ⟨s, hs, rfl⟩; exact ⟨r + s, add_pos hr hs, (EReal.coe_add r s).symm⟩
theorem IsPos.sum (f : Fin 8 → EReal) (h : ∀ i, IsPos (f i)) : IsPos (∑ i, f i) := by
  choose r hr e using h
  refine ⟨∑ i, r i, Finset.sum_pos (fun i _ => hr i) Finset.univ_nonempty, ?_⟩
  rw [Fin.sum_univ_eight, Fin.sum_univ_eight]
  simp only [e, EReal.coe_add]
theorem IsPos.div {a b : EReal} : IsPos a → IsPos b → IsPos (Ideal.div a b) := by
  rintro ⟨r, hr, rfl⟩ ⟨s, hs, rfl⟩
  refine ⟨r / s, div_pos hr hs, ?_⟩
  unfold Ideal.div
  rw [if_neg (by exact_mod_cast hs.ne'), div_eq_mul_inv, EReal.coe_mul, EReal.coe_inv]
theorem IsPos.share {a : EReal} : IsPos a → IsShare a := by
  rintro ⟨r, hr, rfl⟩; exact ⟨r, hr.le, rfl⟩

/-- The probability of expert `e` from the scores `s`. -/
def prob (s : Fin 8 → EReal) (e : Fin 8) : EReal :=
  Ideal.div (Ideal.exp (s e - Finset.univ.fold max ⊥ s)) (∑ j, Ideal.exp (s j - Finset.univ.fold max ⊥ s))

theorem prob_pos (s : Fin 8 → EReal) (h : ∀ i, IsReal (s i)) (e : Fin 8) : IsPos (prob s e) :=
  have p := fun j => ((h j).sub (IsReal.greatest s h)).exp
  (p e).div (IsPos.sum _ p)

/-- The weight of the expert whose probability is `a`, beside the other picked one's `b`. -/
def weight (a b c : EReal) : EReal := Ideal.div a (b + c)

/-! ## Sums and factors that are not negative -/

theorem IsShare.nonneg {a : EReal} : IsShare a → 0 ≤ a := by
  rintro ⟨r, hr, rfl⟩; exact_mod_cast hr

/-- Such a factor taken out of a sum. -/
theorem IsShare.mul_sum {ι : Type} {a : EReal} (h : IsShare a) (s : Finset ι) (f : ι → EReal) : ∑ i ∈ s, a * f i = a * ∑ i ∈ s, f i := by
  classical
  obtain ⟨r, hr, rfl⟩ := h
  induction s using Finset.induction_on with
  | empty => simp
  | insert i s hi ih =>
    rw [Finset.sum_insert hi, Finset.sum_insert hi, ih]
    exact (EReal.left_distrib_of_nonneg_of_ne_top (by exact_mod_cast hr) (EReal.coe_ne_top r) _ _).symm

theorem IsShare.add {a b : EReal} : IsShare a → IsShare b → IsShare (a + b) := by
  rintro ⟨r, hr, rfl⟩ ⟨s, hs, rfl⟩; exact ⟨r + s, add_nonneg hr hs, (EReal.coe_add r s).symm⟩
theorem IsShare.zero : IsShare 0 := ⟨0, le_rfl, by simp⟩
theorem IsShare.when {a : EReal} (h : IsShare a) (p : Prop) [Decidable p] : IsShare (if p then a else 0) := by
  split
  · exact h
  · exact IsShare.zero

/-- A token's gate of expert `e`: the weight of its first expert if that is `e`, and of its second if that is `e`. -/
def gate (e0 e1 : Fin 8) (a b : EReal) (e : Fin 8) : EReal := (if e0 = e then a else 0) + (if e1 = e then b else 0)

theorem gate_share {a b : EReal} (ha : IsShare a) (hb : IsShare b) (e0 e1 e : Fin 8) : IsShare (gate e0 e1 a b e) :=
  (ha.when _).add (hb.when _)

/-- One expert's part of an entry of the result, the tokens scaled by its gate before the product. -/
theorem scaled_sum {n : ℕ} {g : EReal} (h : IsShare g) (x w : Fin n → EReal) : ∑ d, x d * g * w d = g * ∑ d, x d * w d := by
  rw [← h.mul_sum]
  exact Finset.sum_congr rfl fun d _ => by rw [mul_comm (x d) g, mul_assoc]

/-- All eight experts' parts: only the two that the token picks count. -/
theorem sum_gates {a b : EReal} (ha : IsShare a) (hb : IsShare b) (e0 e1 : Fin 8) (y : Fin 8 → EReal) :
    ∑ e, gate e0 e1 a b e * y e = a * y e0 + b * y e1 := by
  have h : ∀ e, gate e0 e1 a b e * y e = (if e0 = e then a * y e else 0) + (if e1 = e then b * y e else 0) := fun e => by
    unfold gate
    rw [EReal.right_distrib_of_nonneg (ha.when _).nonneg (hb.when _).nonneg, ite_mul, ite_mul, zero_mul]
  rw [Finset.sum_congr rfl fun e _ => h e, Finset.sum_add_distrib, Finset.sum_ite_eq, Finset.sum_ite_eq,
    if_pos (Finset.mem_univ _), if_pos (Finset.mem_univ _)]

/-- The probability in the column a token's expert number names, as a sum over the columns. -/
theorem sum_column (p : Fin 8 → EReal) (e : Fin 8) : ∑ j, (if j = e then p j else 0) = p e := by
  rw [Finset.sum_ite_eq', if_pos (Finset.mem_univ _)]

end Cert.Weights
-- ==== Proof.Premise.lean ====
/-
# `Premise`: what the precondition says

Read back from its printed form: every token and every router weight is a real, and every expert number is one of the eight.
-/
module

public import proofs.«01_k».proof.Defs
public import proofs.«01_k».proof.Proof.Lookups
public import proofs.«01_k».proof.Proof.Weights
public import Idealize.ShloMosaic.Lib.ReduceAll
public import Idealize.ShloMosaic.Lib.StableHlo.Predicate
public import Idealize.ShloMosaic.Lib.Pointwise

@[expose] public section

set_option maxRecDepth 16384

noncomputable section

namespace Cert.Premise

open Idealize.ShloMosaic
open Cert.Lookups (word)
open Cert.Weights (IsReal)

/-- The shape relations the two prints of the precondition state. -/
theorem facts : Cert.Pre_routable_KernelIdeal.Facts := by constructor <;> decide
theorem factsReference : Cert.Pre_routable_ReferenceIdeal.Facts := by constructor <;> decide

section Read
open Cert.Pre_routable_KernelIdeal

variable (x : FVec Ideal S256x128 .bf16) (router : FVec Ideal S128x8 .bf16) (ids : IVec S256x2 32) (w : FVec Ideal S2x128x256 .bf16)

theorem highest : Ideal.ofBits .f32 0x7F800000#32 = ⊤ := by simp [Ideal.ofBits, Ideal.ieee]

instance : Subsingleton S_.Idx := ⟨fun a b => funext fun i => i.elim0⟩

/-- What is below +∞ in magnitude is a real. -/
theorem real_of_bit {a : EReal} (h : FloatOps.cmpf (F := Ideal) (φ := .f32) .olt (FloatOps.hostAbsf (F := Ideal) (φ := .f32) a) ⊤ = 1#1) : IsReal a := by
  refine IsReal.of_abs_lt ?_
  by_contra hn
  exact absurd h (by show ¬ BitVec.ofBool (decide (max a (-a) < ⊤)) = 1#1; rw [decide_eq_false hn]; decide)

/-- A word from 0 to 7, read signed, is an expert number. -/
theorem number_of_bit {i : BitVec 32} (h : IntOp.andi (IntOp.cmpi .sge i 0#32) (IntOp.cmpi .slt i 8#32) = 1#1) : ∃ e, i = word e := by
  obtain ⟨h0, h8⟩ := IntOp.andi_eq_one.1 h
  have a : 0 ≤ i.toInt := IntOp.cmpi_sge.1 h0
  have b : i.toInt < 8 := IntOp.cmpi_slt.1 h8
  have n : i.toNat < 2 ^ 31 := by
    rw [BitVec.toInt_eq_toNat_cond] at a
    have := i.isLt
    split at a <;> omega
  rw [StableHlo.Predicate.toInt_eq_toNat_of_lt n] at b
  exact ⟨⟨i.toNat, by omega⟩, by simp [word]⟩

theorem read (h : @fn facts Ideal _ x router ids w = fun _ => 1#1) :
    (∀ r k, IsReal (x (ix2 r k))) ∧ (∀ k j, IsReal (router (ix2 k j))) ∧ ∀ r t, ∃ e, ids (ix2 r t) = word e := by
  have h := congrFun h ix0
  unfold fn fn_part1 at h
  obtain ⟨h, h2⟩ := IntOp.andi_eq_one.1 h
  obtain ⟨h0, h1⟩ := IntOp.andi_eq_one.1 h
  refine ⟨fun r k => ?_, fun k j => ?_, fun r t => ?_⟩
  · have := Host.reduce_andi_all _ _ _ _ _ h0 (ix2 r k)
    pointwise at this
    rw [highest] at this
    exact real_of_bit this
  · have := Host.reduce_andi_all _ _ _ _ _ h1 (ix2 k j)
    pointwise at this
    rw [highest] at this
    exact real_of_bit this
  · have := Host.reduce_andi_all _ _ _ _ _ h2 (ix2 r t)
    pointwise at this
    exact number_of_bit this

end Read

end Cert.Premise
-- ==== Proof.Answer.lean ====
/-
# `Answer`: the reference's result, entry by entry

The reference's operations are gathered under names — the scores, the probabilities, a token's two expert numbers, the
probability and the matrix each one picks — and read at an entry: the two picked experts' products with the token, each
times its weight.
-/
module

public import proofs.«01_k».proof.Proof.Lookups
public import proofs.«01_k».proof.Proof.Weights
public import proofs.«01_k».proof.Proof.Gen.ReferenceIdeal.Run

@[expose] public section

set_option maxRecDepth 16384

noncomputable section

namespace Cert.Answer

open Idealize.ShloMosaic Cert.ReferenceIdeal Cert.ReferenceIdeal.Gen
open Cert.Lookups (word kept_word)
open Cert.Weights (prob weight)

/-! ## The operations, under names -/

section Operations

variable (x : FVec Ideal S256x128 .bf16) (router : FVec Ideal S128x8 .bf16) (ids : IVec S256x2 32) (w : FVec Ideal S8x128x256 .bf16)

/-- The scores. -/
def scores : FVec Ideal S256x8 .f32 :=
  Host.dotGeneral dot_S256x128_S128x8_S256x8_1_0_0_1_n_n none (extf .f32 x bitsLt_bf16_f32) (extf .f32 router bitsLt_bf16_f32)
/-- The exponentials of the scores, each less the greatest of its row. -/
def raised : FVec Ideal S256x8 .f32 :=
  Host.exp (subf (scores x router) (broadcastInDim S256x8 ![0, 1] bcast_S256x1_S256x8_0_1 (broadcastInDim S256x1 ![0] bcast_S256_S256x1_0
    (Host.reduce FloatOps.maximumf (scores x router) (constant S_ .f32 0xFF800000#32) reducesTo_S256x8_S256_d1 h_S_))))
/-- The probabilities. -/
def probs : FVec Ideal S256x8 .f32 :=
  Host.divf (raised x router) (broadcastInDim S256x8 ![0, 1] bcast_S256x1_S256x8_0_1 (broadcastInDim S256x1 ![0] bcast_S256_S256x1_0
    (Host.reduceAdd (raised x router) (constant S_ .f32 0x00000000#32) reducesTo_S256x8_S256_d1 h_S_)))
/-- The tokens' first expert numbers. -/
def first : IVec S256 32 := shapeCast S256 (extractStridedSlice S256x1 ![0, 0] ids slices_S256x2_S256x1_0_0) shapeCasts_S256x1_S256
/-- Their second. -/
def second : IVec S256 32 := shapeCast S256 (extractStridedSlice S256x1 ![0, 1] ids slices_S256x2_S256x1_0_1) shapeCasts_S256x1_S256
/-- The probabilities that the numbers `i` pick. -/
def picked (p : FVec Ideal S256x8 .f32) (i : IVec S256 32) : FVec Ideal S256x1 .f32 :=
  Host.gather gather_S256x8_S256x1x1_S256x1_n_1_0_0_1_2_11 p (shapeCast S256x1x1
    (select (cmpi .slt (broadcastInDim S256x1 ![0] bcast_S256_S256x1_0 i) (broadcastInDim S256x1 ![] bcast_S_S256x1 (constantI S_ 32 0#32)))
      (addi (broadcastInDim S256x1 ![0] bcast_S256_S256x1_0 i) (broadcastInDim S256x1 ![] bcast_S_S256x1 (constantI S_ 32 8#32)))
      (broadcastInDim S256x1 ![0] bcast_S256_S256x1_0 i)) shapeCasts_S256x1_S256x1x1)
/-- The matrices they pick. -/
def rows (i : IVec S256 32) : FVec Ideal S256x128x256 .f32 :=
  Host.gather gather_S8x128x256_S256x1_S256x128x256_12_0_n_n_0_1_1128256 (extf .f32 w bitsLt_bf16_f32)
    (broadcastInDim S256x1 ![0] bcast_S256_S256x1_0
      (select (cmpi .slt i (broadcastInDim S256 ![] bcast_S_S256 (constantI S_ 32 0#32))) (addi i (broadcastInDim S256 ![] bcast_S_S256 (constantI S_ 32 8#32))) i))
/-- The tokens' products with these. -/
def product (i : IVec S256 32) : FVec Ideal S256x256 .f32 :=
  Host.dotGeneral dot_S256x128_S256x128x256_S256x256_1_1_n_2_0_0 none (extf .f32 x bitsLt_bf16_f32) (rows w i)
/-- Products times weights, a weight being `p` over `q + t`. -/
def weighted (p q t : FVec Ideal S256x1 .f32) (y : FVec Ideal S256x256 .f32) : FVec Ideal S256x256 .f32 :=
  mulf (broadcastInDim S256x256 ![0, 1] bcast_S256x1_S256x256_0_1 (Host.divf p (addf q t))) y
/-- The result. -/
def out : FVec Ideal S256x256 .f32 :=
  addf (weighted (picked (probs x router) (first ids)) (picked (probs x router) (first ids)) (picked (probs x router) (second ids)) (product x w (first ids)))
   (weighted (picked (probs x router) (second ids)) (picked (probs x router) (first ids)) (picked (probs x router) (second ids)) (product x w (second ids)))

/-- What the reference's run leaves is this result of its arguments. -/
theorem out_eq (m : (ℓ : Loc nD τ sig) → Buf (Elt Ideal) ℓ) (c : Dev nD) :
  Value.res_main_v44 m c = out (m ((c.tc : Thread nD τ).loc main_arg0)) (m ((c.tc : Thread nD τ).loc main_arg1)) (m ((c.tc : Thread nD τ).loc main_arg2)) (m ((c.tc : Thread nD τ).loc main_arg3)) := by
  unfold Value.res_main_v44
  rfl

end Operations

/-! ## Read at an entry -/

theorem lowest : Ideal.ofBits .f32 0xFF800000#32 = ⊥ := by simp [Ideal.ofBits, Ideal.ieee]

/-- The scores of row `r`. -/
def score (x : FVec Ideal S256x128 .bf16) (router : FVec Ideal S128x8 .bf16) (r : Fin 256) (j : Fin 8) : EReal :=
  ∑ k : Fin 128, x (ix2 r k) * router (ix2 k j)
/-- Row `r` of the tokens times column `h` of expert `e`'s matrix. -/
def dotted (x : FVec Ideal S256x128 .bf16) (w : FVec Ideal S8x128x256 .bf16) (r h : Fin 256) (e : Fin 8) : EReal :=
  ∑ d : Fin 128, x (ix2 r d) * w (ix3 e d h)

variable (x : FVec Ideal S256x128 .bf16) (router : FVec Ideal S128x8 .bf16) (ids : IVec S256x2 32) (w : FVec Ideal S8x128x256 .bf16)

theorem probs_at (r : Fin 256) (e : Fin 8) : probs x router (ix2 r e) = prob (score x router r) e := by
  pointwise [probs, raised, scores, lowest]
  rfl
theorem first_at (r : Fin 256) : first ids (ix1 r) = ids (ix2 r 0) := by pointwise [first]
theorem second_at (r : Fin 256) : second ids (ix1 r) = ids (ix2 r 1) := by pointwise [second]

theorem picked_at (p : FVec Ideal S256x8 .f32) (i : IVec S256 32) (r : Fin 256) (e : Fin 8) (h : i (ix1 r) = word e) :
    picked p i (ix2 r 0) = p (ix2 r e) := by
  unfold picked
  refine Lookups.along_row p _ r e ?_
  pointwise
  rw [h]
  exact kept_word e
theorem product_at (i : IVec S256 32) (r h : Fin 256) (e : Fin 8) (he : i (ix1 r) = word e) : product x w i (ix2 r h) = dotted x w r h e := by
  pointwise [product, rows]
  refine Finset.sum_congr rfl fun d _ => congrArg (x (ix2 r d) * ·) ?_
  refine (Lookups.of_matrices _ _ r d h e ?_).trans rfl
  pointwise
  rw [he]
  exact kept_word e
theorem weighted_at (p q t : FVec Ideal S256x1 .f32) (y : FVec Ideal S256x256 .f32) (r h : Fin 256) :
    weighted p q t y (ix2 r h) = weight (p (ix2 r 0)) (q (ix2 r 0)) (t (ix2 r 0)) * y (ix2 r h) := by
  pointwise [weighted]
  rfl

/-- An entry of the result, for a token whose two expert numbers are in range. -/
def entry (e0 e1 : Fin 8) (r h : Fin 256) : EReal :=
  weight (prob (score x router r) e0) (prob (score x router r) e0) (prob (score x router r) e1) * dotted x w r h e0
    + weight (prob (score x router r) e1) (prob (score x router r) e0) (prob (score x router r) e1) * dotted x w r h e1

theorem out_at (r h : Fin 256) (e0 e1 : Fin 8) (h0 : ids (ix2 r 0) = word e0) (h1 : ids (ix2 r 1) = word e1) :
    out x router ids w (ix2 r h) = entry x router w e0 e1 r h := by
  have i0 := (first_at ids r).trans h0
  have i1 := (second_at ids r).trans h1
  unfold out entry
  refine (addf_apply _ _ _).trans ?_
  rw [weighted_at, weighted_at, picked_at _ _ r e0 i0, picked_at _ _ r e1 i1, product_at x w _ r h e0 i0, product_at x w _ r h e1 i1,
    probs_at, probs_at]
  rfl

end Cert.Answer
-- ==== Proof.Shares.lean ====
/-
# `Shares`: the kernel's result, entry by entry, over the extended reals

Every device finds the same tokens, router and expert numbers, and two of the eight experts. Its share of an entry is its
two experts' products with the token, each scaled by that expert's gate; the four shares are summed on the device whose
block of rows the entry is in, and that sum is what every device ends with.
-/
module

public import proofs.«01_k».proof.Proof.Values
public import proofs.«01_k».proof.Proof.Answer
public import proofs.«01_k».proof.Proof.Gen.KernelIdeal
public import Idealize.ShloMosaic.Lib.Pointwise

@[expose] public section

set_option maxRecDepth 16384

noncomputable section

namespace Cert.Shares

open Idealize.ShloMosaic Cert.KernelIdeal Cert.KernelIdeal.Gen Cert.Exchange
open Cert.Lookups (word)
open Cert.Weights (prob weight gate IsReal IsShare)
open Cert.Answer (score dotted entry lowest)

/-! ## Expert numbers as words -/

theorem select_word {α : Type} (e e' : Fin 8) (a b : α) : Scalar.select (IntOp.cmpi .eq (word e) (word e')) a b = if e = e' then a else b := by
  have h : IntOp.cmpi .eq (word e) (word e') = if e = e' then 1#1 else 0#1 := by revert e e'; decide
  rw [h]
  split
  · rfl
  · rfl

/-- Device `p`'s expert `l`. -/
def expert (p : Dev nD) (l : Fin 2) : Fin 8 := ⟨2 * p.val + l.val, by
  have h : p.val < 4 := p.isLt
  omega⟩

theorem expert0_word (p : Dev nD) : Scalar.addi (Scalar.muli (meWord p) 2#32) 0#32 = word (expert p 0) := by revert p; decide +kernel
theorem expert1_word (p : Dev nD) : Scalar.addi (Scalar.muli (meWord p) 2#32) 1#32 = word (expert p 1) := by revert p; decide +kernel

/-! ## What the devices find -/

variable (B : Inputs Ideal)
variable (x : FVec Ideal S256x128 .bf16) (router : FVec Ideal S128x8 .bf16) (ids : IVec S256x2 32)
variable (w : FVec Ideal ⟨3, ![8, 128, 256]⟩ .bf16)

/-- The devices' arguments, as parts of whole arrays. -/
structure Dealt : Prop where
  x : ∀ p, B.x p = x
  router : ∀ p, B.router p = router
  ids : ∀ p, B.ids p = ids
  w : ∀ (p : Dev nD) (l : Fin 2) (d : Fin 128) (h : Fin 256), B.w p (ix3 l d h) = w (ix3 (expert p l) d h)

theorem softmax_at (x : Vec Ideal S256x128 .bf16) (router : Vec Ideal S128x8 .bf16) (r : Fin 256) (e : Fin 8) :
    k0_pay2 x router (ix2 r e) = prob (score x router r) e := by
  pointwise [k0_pay2, k0_pay1, lowest]
  rfl

/-! ## The gates -/

section Gates

variable (p : FVec Ideal S256x8 .f32) (i j : Vec Ideal S256x1 .i32) (r : Fin 256) (e0 e1 : Fin 8)

theorem iota_at (e : Fin 8) : colIota (ix2 r e) = word e := by pointwise [colIota]

theorem pick_first (h : i (ix2 r 0) = word e0) : k0_pay5 p colIota i (ix2 r 0) = p (ix2 r e0) := by
  refine Eq.trans ?_ (Weights.sum_column (fun e => p (ix2 r e)) e0)
  pointwise [k0_pay5, k0_pay3]
  refine Finset.sum_congr rfl fun e _ => ?_
  rw [h]
  exact select_word e e0 _ _
theorem pick_second (h : j (ix2 r 0) = word e1) : k0_pay6 p colIota j (ix2 r 0) = p (ix2 r e1) := by
  refine Eq.trans ?_ (Weights.sum_column (fun e => p (ix2 r e)) e1)
  pointwise [k0_pay6, k0_pay4]
  refine Finset.sum_congr rfl fun e _ => ?_
  rw [h]
  exact select_word e e1 _ _

/-- The weights of the two picked experts. -/
abbrev weight0 : EReal := weight (p (ix2 r e0)) (p (ix2 r e0)) (p (ix2 r e1))
abbrev weight1 : EReal := weight (p (ix2 r e1)) (p (ix2 r e0)) (p (ix2 r e1))

theorem gatedX_at (c : Dev nD) (x : FVec Ideal S256x128 .bf16) (d : Fin 128) (h0 : i (ix2 r 0) = word e0) (h1 : j (ix2 r 0) = word e1) :
    k0_pay10 (meWord c) x p colIota i j (ix2 r d) = x (ix2 r d) * gate e0 e1 (weight0 p r e0 e1) (weight1 p r e0 e1) (expert c 0) := by
  pointwise [k0_pay10, k0_pay9, k0_pay8, k0_pay7, k0_pay4, k0_pay3]
  rw [pick_first p i r e0 h0, pick_second p j r e1 h1, expert0_word, h0, h1, select_word, select_word]
  rfl
theorem gate1_at (c : Dev nD) (h0 : i (ix2 r 0) = word e0) (h1 : j (ix2 r 0) = word e1) :
    k0_pay11 (meWord c) p colIota i j (ix2 r 0) = gate e0 e1 (weight0 p r e0 e1) (weight1 p r e0 e1) (expert c 1) := by
  pointwise [k0_pay11, k0_pay9, k0_pay8, k0_pay7, k0_pay4, k0_pay3]
  rw [pick_first p i r e0 h0, pick_second p j r e1 h1, expert1_word, h0, h1, select_word, select_word]
  rfl

end Gates

/-! ## The shares -/

theorem firstIds_at (c : Dev nD) (r : Fin 256) : firstIds B c (ix2 r 0) = B.ids c (ix2 r 0) := by
  unfold firstIds; pointwise
theorem secondIds_at (c : Dev nD) (r : Fin 256) : secondIds B c (ix2 r 0) = B.ids c (ix2 r 1) := by
  unfold secondIds; pointwise

theorem share32_sum (x g : FVec Ideal S256x128 .bf16) (v : FVec Ideal S256x1 .f32) (w : Vec Ideal S2x128x256 .bf16) (q : Fin 4) (a : Fin 64) (h : Fin 256)
    (r : Fin 256) (hr : r.val = 64 * q.val + a.val) :
    k0_pay13 x g v w (ix3 q a h) = ∑ d : Fin 128, g (ix2 r d) * w (ix3 0 d h) + ∑ d : Fin 128, x (ix2 r d) * v (ix2 r 0) * w (ix3 1 d h) := by
  have b : q.val * 64 + a.val < 256 := by clear hr; have := q.isLt; have := a.isLt; omega
  obtain rfl : r = ⟨q.val * 64 + a.val, b⟩ := Fin.ext (by show r.val = q.val * 64 + a.val; omega)
  clear hr
  pointwise [k0_pay13, k0_pay12]
  refine congrArg₂ (· + ·) (Finset.sum_congr rfl fun d _ => ?_) (Finset.sum_congr rfl fun d _ => ?_)
  · refine congrArg (_ * ·) (congrArg w ?_)
    exact congrArg₂ (fun a b => ix3 a b h) (Fin.ext (by show d.val / 128 = 0; omega)) (Fin.ext (by show d.val % 128 = d.val; omega))
  · refine congrArg (_ * ·) (congrArg w ?_)
    exact congrArg₂ (fun a b => ix3 a b h) (Fin.ext (by show (128 + d.val) / 128 = 1; omega)) (Fin.ext (by show (128 + d.val) % 128 = d.val; omega))

/-- Rounding a share to be sent changes nothing here. -/
theorem share16_eq (c : Dev nD) : share16 B c = share32 B c := by
  funext i
  unfold share16 share32
  pointwise [k0_pay14, k0_pay13]

section Row

variable {B x router ids w}
variable (D : Dealt B x router ids w) (r h : Fin 256) (e0 e1 : Fin 8)

/-- The weights of a token's two experts. -/
def first : EReal := weight (prob (score x router r) e0) (prob (score x router r) e0) (prob (score x router r) e1)
def second : EReal := weight (prob (score x router r) e1) (prob (score x router r) e0) (prob (score x router r) e1)

theorem first_share (hs : ∀ j, IsReal (score x router r j)) : IsShare (first (x := x) (router := router) r e0 e1) :=
  ((Weights.prob_pos _ hs e0).div ((Weights.prob_pos _ hs e0).add (Weights.prob_pos _ hs e1))).share
theorem second_share (hs : ∀ j, IsReal (score x router r j)) : IsShare (second (x := x) (router := router) r e0 e1) :=
  ((Weights.prob_pos _ hs e1).div ((Weights.prob_pos _ hs e0).add (Weights.prob_pos _ hs e1))).share

/-- A token's gate of expert `e`. -/
def gateOf (e : Fin 8) : EReal := gate e0 e1 (first (x := x) (router := router) r e0 e1) (second (x := x) (router := router) r e0 e1) e

include D in
/-- Device `p`'s share of an entry. -/
theorem share_at (p : Dev nD) (q : Fin 4) (a : Fin 64) (hr : r.val = 64 * q.val + a.val) (h0 : ids (ix2 r 0) = word e0) (h1 : ids (ix2 r 1) = word e1)
    (hs : ∀ j, IsReal (score x router r j)) :
    share32 B p (ix3 q a h) = gateOf (x := x) (router := router) r e0 e1 (expert p 0) * dotted x w r h (expert p 0)
      + gateOf (x := x) (router := router) r e0 e1 (expert p 1) * dotted x w r h (expert p 1) := by
  have hg := fun e => Weights.gate_share (first_share r e0 e1 hs) (second_share r e0 e1 hs) e0 e1 e
  have i0 : firstIds B p (ix2 r 0) = word e0 := by rw [firstIds_at, D.ids]; exact h0
  have i1 : secondIds B p (ix2 r 0) = word e1 := by rw [secondIds_at, D.ids]; exact h1
  have hp : ∀ e, probs B p (ix2 r e) = prob (score x router r) e := fun e => by
    unfold probs; rw [D.x, D.router]; exact softmax_at x router r e
  have hx : ∀ d, k0_pay1 (B.x p) (ix2 r d) = x (ix2 r d) := fun d => by rw [D.x]; pointwise [k0_pay1]
  unfold share32
  rw [share32_sum _ _ _ _ q a h r hr]
  unfold gatedX gate1 gateOf dotted
  refine congrArg₂ (· + ·) (Eq.trans (Finset.sum_congr rfl fun d _ => ?_) (Weights.scaled_sum (hg (expert p 0)) (fun d => x (ix2 r d)) fun d => w (ix3 (expert p 0) d h)))
    (Eq.trans (Finset.sum_congr rfl fun d _ => ?_) (Weights.scaled_sum (hg (expert p 1)) (fun d => x (ix2 r d)) fun d => w (ix3 (expert p 1) d h)))
  · rw [gatedX_at _ _ _ r e0 e1 p _ d i0 i1, hx, D.w, weight0, weight1, hp, hp]
    rfl
  · rw [gate1_at _ _ _ r e0 e1 p i0 i1, hx, D.w, weight0, weight1, hp, hp]
    rfl

end Row

/-! ## The sum of the four -/

/-- Adding up from a device's own share, in the order the others' come in, is adding up. -/
theorem sum_around (s : Dev nD → EReal) (c : Dev nD) : s c + s (peer 0 c) + s (peer 2 c) + s (peer 1 c) = s 0 + s 1 + s 2 + s 3 := by
  fin_cases c
  · show s 0 + s 1 + s 3 + s 2 = _; abel
  · show s 1 + s 2 + s 0 + s 3 = _; abel
  · show s 2 + s 3 + s 1 + s 0 = _; abel
  · show s 3 + s 0 + s 2 + s 1 = _; abel

/-- The devices' pairs of experts are the eight. -/
theorem sum_experts (f : Fin 8 → EReal) :
    (f (expert 0 0) + f (expert 0 1)) + (f (expert 1 0) + f (expert 1 1)) + (f (expert 2 0) + f (expert 2 1)) + (f (expert 3 0) + f (expert 3 1)) = ∑ e, f e := by
  rw [Fin.sum_univ_eight]
  show (f 0 + f 1) + (f 2 + f 3) + (f 4 + f 5) + (f 6 + f 7) = _
  abel

theorem summed_at (c : Dev nD) (a : Fin 64) (h : Fin 256) :
    summed B c (ix2 a h) = share32 B 0 (ix3 c a h) + share32 B 1 (ix3 c a h) + share32 B 2 (ix3 c a h) + share32 B 3 (ix3 c a h) := by
  refine Eq.trans ?_ (sum_around (fun p => share32 B p (ix3 c a h)) c)
  have e : inSlot c (rowCol1 (ix3 0 a h)) = ix3 c a h := funext fun b => Fin.ext (by
    match b with
    | ⟨0, _⟩ => rfl
    | ⟨1, _⟩ => rfl
    | ⟨2, _⟩ => rfl)
  unfold summed twoParts
  pointwise [k0_pay16, k0_pay15]
  unfold ownPart part
  rw [e, share16_eq, share16_eq, share16_eq]

/-- Whichever device a row was summed on, every device ends with that sum. -/
theorem result_summed (c : Dev nD) (i : S256x256.Idx) : result B c i = summed B (blockOf i) (within i) := by
  unfold result
  split
  · rename_i e; rw [← e]
  · have e : within i = ix2 (within i 0) (within i 1) := eq_ix2 _
    rw [e]
    pointwise [k0_pay18]
    unfold gathered handed
    pointwise [k0_pay17]
    exact congrArg (summed B (blockOf i)) (idx2_ext rfl rfl)

variable {B x router ids w}

/-- An entry of the result on any device, for a token whose scores are reals and whose two expert numbers are in range. -/
theorem result_at (D : Dealt B x router ids w) (c : Dev nD) (r h : Fin 256) (e0 e1 : Fin 8) (h0 : ids (ix2 r 0) = word e0) (h1 : ids (ix2 r 1) = word e1)
    (hs : ∀ j, IsReal (score x router r j)) : result B c (ix2 r h) = entry x router w e0 e1 r h := by
  have hi : within (ix2 r h) = ix2 ⟨r.val % 64, Nat.mod_lt _ (by decide)⟩ h := idx2_ext rfl rfl
  have hr : r.val = 64 * (blockOf (ix2 r h)).val + (⟨r.val % 64, Nat.mod_lt _ (by decide)⟩ : Fin 64).val := by
    show r.val = 64 * (r.val / 64) + r.val % 64; omega
  rw [result_summed, hi, summed_at, share_at D r h e0 e1 0 _ _ hr h0 h1 hs, share_at D r h e0 e1 1 _ _ hr h0 h1 hs,
    share_at D r h e0 e1 2 _ _ hr h0 h1 hs, share_at D r h e0 e1 3 _ _ hr h0 h1 hs,
    sum_experts fun e => gateOf (x := x) (router := router) r e0 e1 e * dotted x w r h e]
  exact Weights.sum_gates (first_share r e0 e1 hs) (second_share r e0 e1 hs) e0 e1 _

end Cert.Shares
-- ==== Proof.Agree.lean ====
/-
# `Agree`: the kernel ends with the reference's result on every device

The devices start with copies of the tokens, the router's weights and the expert numbers, and with two of the eight expert
matrices each. Entry by entry, both results are the two picked experts' products with the token, each times its weight.
-/
module

public import proofs.«01_k».proof.Defs
public import proofs.«01_k».proof.Proof.Frames
public import proofs.«01_k».proof.Proof.Shares
public import proofs.«01_k».proof.Proof.Premise

@[expose] public section

noncomputable section

namespace Cert.Agree

open Idealize.ShloMosaic Idealize.SL.Sem
open Cert.Exchange (Inputs given)
open Cert.Shares (Dealt expert)
open Cert.Weights (IsReal)

/-- Device `p`'s block of the expert matrices, entry by entry. -/
theorem block_at (w : FVec Ideal ⟨3, ![8, 128, 256]⟩ .bf16) (p : Fin 4) (l : Fin 2) (d : Fin 128) (h : Fin 256) :
    Layout.block ⟨3, ![2, 128, 256]⟩ ⟨3, ![8, 128, 256]⟩ 0 4 p w (by decide) (ix3 l d h) = w (ix3 (expert p l) d h) := by
  refine (Layout.block_apply _ _ _ _).trans (congrArg w (funext fun a => Fin.ext ?_))
  refine (Layout.Tiles.idx_val _ _ _ _).trans ?_
  match a with
  | ⟨0, _⟩ => show _ = 2 * p.val + l.val; rw [Nat.mul_comm]; rfl
  | ⟨1, _⟩ => rfl
  | ⟨2, _⟩ => rfl

/-- The two results are equal, for devices dealt the reference's arguments. -/
theorem results_equal {B : Inputs Ideal} {x : FVec Ideal ⟨2, ![256, 128]⟩ .bf16} {router : FVec Ideal ⟨2, ![128, 8]⟩ .bf16}
    {ids : IVec ⟨2, ![256, 2]⟩ 32} {w : FVec Ideal ⟨3, ![8, 128, 256]⟩ .bf16} (D : Dealt B x router ids w)
    (hx : ∀ r k, IsReal (x (ix2 r k))) (hr : ∀ k j, IsReal (router (ix2 k j))) (hi : ∀ r t, ∃ e, ids (ix2 r t) = Lookups.word e) (c : Dev KernelIdeal.nD) :
    Exchange.result B c = Answer.out x router ids w := by
  funext i
  obtain ⟨r, h, rfl⟩ : ∃ (r h : Fin 256), i = ix2 r h := ⟨i 0, i 1, eq_ix2 i⟩
  obtain ⟨e0, h0⟩ := hi r 0
  obtain ⟨e1, h1⟩ := hi r 1
  rw [Shares.result_at D c r h e0 e1 h0 h1 fun j => IsReal.sum _ _ fun k => (hx r k).mul (hr k j), Answer.out_at x router ids w r h e0 e1 h0 h1]

theorem algebraic : @Cert.algebraic_KernelIdeal_ReferenceIdeal_pre_routable_KernelIdeal KernelIdeal.Gen.facts ReferenceIdeal.Gen.facts Premise.facts := by
  intro m g m' g' pre hm
  have D : Dealt (given m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun p => (hm p).1, fun p => (hm p).2.1, fun p => (hm p).2.2.1,
      fun p l d h => (congrFun (hm p).2.2.2 (ix3 l d h)).trans (block_at _ p l d h)⟩
  obtain ⟨hx, hr, hi⟩ := Premise.read _ _ _ _ (pre 0)
  rw [(hm 0).1] at hx
  rw [(hm 0).2.1] at hr
  rw [(hm 0).2.2.1] at hi
  refine ⟨_, ?_, (θ_run Cert.ReferenceIdeal.defs _ _).mono (fun r h => ⟨(h 0).1.trans (Answer.out_eq m' 0), (h 0).2⟩) (Cert.ReferenceIdeal.Value.run m' g')⟩
  refine (θ_run Cert.KernelIdeal.defs _ _).mono (fun r h c => ⟨(h.1 c).trans ?_, h.2.1 c⟩) (Exchange.run_main m g)
  exact results_equal D hx hr hi c

end Cert.Agree
-- ==== Proof.lean ====
/-
# The proof of `Cert.Claim`

The five claims, put together from the modules under `Proof/`:

* `Frames`: the kernel, at either kind of floats, and the reference run to their end, leave their arguments as they were and
  every semaphore at zero. No premise is used, so the same holds under one.
* The idealization is the kernel's own text, so there is nothing to show of it.
* `Agree`: over the extended reals, on tokens and router weights that are finite and expert numbers from 0 to 7, every device
  ends with the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Premise
public import proofs.«01_k».proof.Proof.Agree

@[expose] public section

noncomputable section

namespace Cert.Proof

theorem claim : Cert.Claim :=
  ⟨Cert.Kernel.Gen.facts, Cert.KernelIdeal.Gen.facts, Cert.ReferenceIdeal.Gen.facts, Cert.Premise.facts, Cert.Premise.factsReference,
    Cert.Frames.kernel, Cert.Frames.kernelIdeal, fun m ρ _ => Cert.Frames.kernelIdeal m ρ trivial,
    Cert.Frames.referenceIdeal, fun m ρ _ => Cert.Frames.referenceIdeal m ρ trivial, trivial, Cert.Agree.algebraic⟩

end Cert.Proof

end
